-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing_KernelIdeal [hPre_finite_routing_KernelIdeal : Cert.Pre_finite_routing_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing_ReferenceIdeal [hPre_finite_routing_ReferenceIdeal : Cert.Pre_finite_routing_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_routing_KernelIdeal [hKernelIdeal : Cert.KernelIdeal.Facts] [hPre_finite_routing_KernelIdeal : Cert.Pre_finite_routing_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_routing_ReferenceIdeal [hReferenceIdeal : Cert.ReferenceIdeal.Facts] [hPre_finite_routing_ReferenceIdeal : Cert.Pre_finite_routing_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_routing_KernelIdeal [hKernelIdeal : Cert.KernelIdeal.Facts] [hReferenceIdeal : Cert.ReferenceIdeal.Facts] [hPre_finite_routing_KernelIdeal : Cert.Pre_finite_routing_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_routing_KernelIdeal : Cert.Pre_finite_routing_KernelIdeal.Facts) (hPre_finite_routing_ReferenceIdeal : Cert.Pre_finite_routing_ReferenceIdeal.Facts),
    quiescent_Kernel (hKernel := hKernel)
    ∧ quiescent_KernelIdeal (hKernelIdeal := hKernelIdeal)
    ∧ quiescent_KernelIdeal_pre_finite_routing_KernelIdeal (hKernelIdeal := hKernelIdeal) (hPre_finite_routing_KernelIdeal := hPre_finite_routing_KernelIdeal)
    ∧ quiescent_ReferenceIdeal (hReferenceIdeal := hReferenceIdeal)
    ∧ quiescent_ReferenceIdeal_pre_finite_routing_ReferenceIdeal (hReferenceIdeal := hReferenceIdeal) (hPre_finite_routing_ReferenceIdeal := hPre_finite_routing_ReferenceIdeal)
    ∧ preserves_Kernel_KernelIdeal
    ∧ algebraic_KernelIdeal_ReferenceIdeal_pre_finite_routing_KernelIdeal (hKernelIdeal := hKernelIdeal) (hReferenceIdeal := hReferenceIdeal) (hPre_finite_routing_KernelIdeal := hPre_finite_routing_KernelIdeal)
-- ==== Pre_finite_routing_KernelIdeal.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .f32) (main_arg1 : FVec F S256x16 .f32) (main_arg2 : IVec S1024x1 32) (main_arg3 : FVec F S4x256x512 .f32) (main_arg4 : FVec F S256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Pre_finite_routing_ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .f32) (main_arg1 : FVec F S256x16 .f32) (main_arg2 : IVec S1024x1 32) (main_arg3 : FVec F S16x256x512 .f32) (main_arg4 : FVec F S256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S4x8x128x512 : Shape := ⟨4, ![4, 8, 128, 512]⟩
abbrev S16 : Shape := ⟨1, ![16]⟩
abbrev S_ : Shape := ⟨0, ![]⟩
abbrev S1024x16 : Shape := ⟨2, ![1024, 16]⟩
abbrev S1024 : Shape := ⟨1, ![1024]⟩
abbrev S1x256x512 : Shape := ⟨3, ![1, 256, 512]⟩
abbrev S128x256 : Shape := ⟨2, ![128, 256]⟩
abbrev S128x1 : Shape := ⟨2, ![128, 1]⟩
abbrev S128x512 : Shape := ⟨2, ![128, 512]⟩
abbrev S1x1x128x512 : Shape := ⟨4, ![1, 1, 128, 512]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x16, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S4x8x128x512, .fp8e4m3⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_52 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_51 : BitVec 32 := 1#32
  let v98 : BitVec 32 := Scalar.muli v3 c1_i32_51
  let v99 : BitVec 32 := Scalar.addi c0_i32_52 v98
  v99.toNat
def k0_dev4 (d0 : Dev nD) : Nat :=
  let c0_i32_85 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_84 : BitVec 32 := 1#32
  let v160 : BitVec 32 := Scalar.muli v3 c1_i32_84
  let v161 : BitVec 32 := Scalar.addi c0_i32_85 v160
  v161.toNat
def k0_dev5 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_117 : BitVec 32 := 1#32
  let v222 : BitVec 32 := Scalar.muli v3 c1_i32_117
  let v223 : BitVec 32 := Scalar.addi c0_i32_118 v222
  v223.toNat
def k0_dev6 (d0 : Dev nD) : Nat :=
  let c0_i32_151 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_150 : BitVec 32 := 1#32
  let v284 : BitVec 32 := Scalar.muli v3 c1_i32_150
  let v285 : BitVec 32 := Scalar.addi c0_i32_151 v284
  v285.toNat
def k0_dev7 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_182 : BitVec 32 := 1#32
  let v346 : BitVec 32 := Scalar.muli v4 c1_i32_182
  let v347 : BitVec 32 := Scalar.addi c0_i32_183 v346
  v347.toNat
def k0_dev8 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_213 : BitVec 32 := 1#32
  let v408 : BitVec 32 := Scalar.muli v4 c1_i32_213
  let v409 : BitVec 32 := Scalar.addi c0_i32_214 v408
  v409.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_244 : BitVec 32 := 1#32
  let v470 : BitVec 32 := Scalar.muli v4 c1_i32_244
  let v471 : BitVec 32 := Scalar.addi c0_i32_245 v470
  v471.toNat
def k0_dev10 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_275 : BitVec 32 := 1#32
  let v532 : BitVec 32 := Scalar.muli v4 c1_i32_275
  let v533 : BitVec 32 := Scalar.addi c0_i32_276 v532
  v533.toNat
def k0_dev11 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_313 : BitVec 32 := 1#32
  let v565 : BitVec 32 := Scalar.muli v4 c1_i32_313
  let v566 : BitVec 32 := Scalar.addi c0_i32_314 v565
  v566.toNat
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_348 : BitVec 32 := 1#32
  let v594 : BitVec 32 := Scalar.muli v4 c1_i32_348
  let v595 : BitVec 32 := Scalar.addi c0_i32_349 v594
  v595.toNat
def k0_dev13 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_383 : BitVec 32 := 1#32
  let v623 : BitVec 32 := Scalar.muli v4 c1_i32_383
  let v624 : BitVec 32 := Scalar.addi c0_i32_384 v623
  v624.toNat
def k0_dev14 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_418 : BitVec 32 := 1#32
  let v652 : BitVec 32 := Scalar.muli v4 c1_i32_418
  let v653 : BitVec 32 := Scalar.addi c0_i32_419 v652
  v653.toNat
def k0_dev15 (d0 : Dev nD) : Nat :=
  let c0_i32_454 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_453 : BitVec 32 := 1#32
  let v681 : BitVec 32 := Scalar.muli v3 c1_i32_453
  let v682 : BitVec 32 := Scalar.addi c0_i32_454 v681
  v682.toNat
def k0_dev16 (d0 : Dev nD) : Nat :=
  let c0_i32_489 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_488 : BitVec 32 := 1#32
  let v710 : BitVec 32 := Scalar.muli v3 c1_i32_488
  let v711 : BitVec 32 := Scalar.addi c0_i32_489 v710
  v711.toNat
def k0_dev17 (d0 : Dev nD) : Nat :=
  let c0_i32_524 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_523 : BitVec 32 := 1#32
  let v739 : BitVec 32 := Scalar.muli v3 c1_i32_523
  let v740 : BitVec 32 := Scalar.addi c0_i32_524 v739
  v740.toNat
def k0_dev18 (d0 : Dev nD) : Nat :=
  let c0_i32_559 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_558 : BitVec 32 := 1#32
  let v768 : BitVec 32 := Scalar.muli v3 c1_i32_558
  let v769 : BitVec 32 := Scalar.addi c0_i32_559 v768
  v769.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S1024x16 : Shape := ⟨2, ![1024, 16]⟩
abbrev S_ : Shape := ⟨0, ![]⟩
abbrev S1024 : Shape := ⟨1, ![1024]⟩
abbrev S1024x512 : Shape := ⟨2, ![1024, 512]⟩
abbrev S1024x2 : Shape := ⟨2, ![1024, 2]⟩
abbrev S2 : Shape := ⟨1, ![2]⟩
abbrev S1x2 : Shape := ⟨2, ![1, 2]⟩
abbrev S1024x256x512 : Shape := ⟨3, ![1024, 256, 512]⟩

abbrev nBuf : Space → Nat
  | .hbm => 51
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S16x256x512, .f32⟩
  | .hbm, ⟨4, _⟩ => ⟨S256x512, .f32⟩
  | .hbm, ⟨5, _⟩ => ⟨S1024x16, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x16, .f32⟩
  | .hbm, ⟨10, _⟩ => ⟨S1024x16, .f32⟩
  | .hbm, ⟨11, _⟩ => ⟨S1024x16, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x16, .f32⟩
  | .hbm, ⟨16, _⟩ => ⟨S1024x16, .f32⟩
  | .hbm, ⟨17, _⟩ => ⟨S1024x512, .f32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x1, .i32⟩
  | .hbm, ⟨22, _⟩ => ⟨S1024x2, .i32⟩
  | .hbm, ⟨23, _⟩ => ⟨S2, .i32⟩
  | .hbm, ⟨24, _⟩ => ⟨S_, .i32⟩
  | .hbm, ⟨25, _⟩ => ⟨S1024x2, .i32⟩
  | .hbm, ⟨26, _⟩ => ⟨S1024x2, .i1⟩
  | .hbm, ⟨27, _⟩ => ⟨S1x2, .i32⟩
  | .hbm, ⟨28, _⟩ => ⟨S1024x2, .i32⟩
  | .hbm, ⟨29, _⟩ => ⟨S1024x2, .i1⟩
  | .hbm, ⟨30, _⟩ => ⟨S1024x2, .i1⟩
  | .hbm, ⟨31, _⟩ => ⟨S_, .i1⟩
  | .hbm, ⟨32, _⟩ => ⟨S1024, .i1⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1024x256x512, .f32⟩
  | .hbm, ⟨46, _⟩ => ⟨S1024x512, .f32⟩
  | .hbm, ⟨47, _⟩ => ⟨S1024x1, .f32⟩
  | .hbm, ⟨48, _⟩ => ⟨S1024x512, .f32⟩
  | .hbm, ⟨49, _⟩ => ⟨S1024x512, .f32⟩
  | .hbm, ⟨50, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Protocol.lean ====
/-
The protocol of the kernel, before any of its text is run.

Four devices, the partners of device `c` being `px c = 3 - c` and `py c = c xor 1`. Sixteen transfers per device: for
each of eight row blocks, one of step 0 and one of step 1. Transfer `t = 8 * step + block` of a device goes to its
partner `pt t c` and lands in the slot beside the one it was sent from; the partner sends the same transfer back.

Cells and contents.
* The barrier cell of `c` is waited on by `c` for two units. One comes from each partner, and it hands over the
  partner's landing slots of exactly the transfers `c` makes to that partner.
* The receive cell `t` of `c` is paid by the landing of the partner's transfer `t`; it hands over the landing slot
  holding what the partner's source slot held.
* The send cell `t` of `c` is paid when the transfer has been read out; it hands back the half of the source slot that
  travelled. The other half stays with `c`, which loads from the slot while the transfer is in flight.

What the source slots hold is a parameter `V` here.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline library's rounds and the protocol's own, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners and transfers -/

/-- The partner of the vertical exchange. -/
def px (c : Dev nD) : Dev nD := ⟨3 - c.val, by have := c.isLt; show 3 - c.val < 4; omega⟩
set_option backward.proofsInPublic true in
/-- The partner of the horizontal exchange. -/
def py (c : Dev nD) : Dev nD := ⟨c.val ^^^ 1, by revert c; decide⟩

/-- Which partner: `false` is `px`, `true` is `py`. -/
def peer (d : Bool) (c : Dev nD) : Dev nD := if d then py c else px c

theorem peer_peer (d : Bool) (c : Dev nD) : peer d (peer d c) = c := by revert d c; decide

/-- A partner as a permutation of the devices. -/
def peerEquiv (d : Bool) : Dev nD ≃ Dev nD := ⟨peer d, peer d, peer_peer d, peer_peer d⟩

/-- The partner transfer `t` goes to: the first half of the blocks goes vertically first, the second half horizontally. -/
def via (t : Fin 16) : Bool := !(decide (t.val < 4) || decide (12 ≤ t.val))

/-- The device transfer `t` of `c` goes to. -/
abbrev pt (t : Fin 16) (c : Dev nD) : Dev nD := peer (via t) c

theorem pt_pt (t : Fin 16) (c : Dev nD) : pt t (pt t c) = c := peer_peer _ c

/-- The row of the exchange buffer transfer `t` is sent from, -/
def srow (t : Fin 16) : Fin 4 := ⟨2 * (t.val / 8), by omega⟩
/-- the row it lands in, -/
def drow (t : Fin 16) : Fin 4 := ⟨2 * (t.val / 8) + 1, by omega⟩
/-- and its block. -/
def col (t : Fin 16) : Fin 8 := ⟨t.val % 8, by omega⟩

/-- The transfer of block `b` at step 0, -/
def t0 (b : Fin 8) : Fin 16 := ⟨b.val, by omega⟩
/-- and at step 1. -/
def t1 (b : Fin 8) : Fin 16 := ⟨8 + b.val, by omega⟩

/-! ## The exchange buffer's slots -/

/-- The exchange buffer, whole. -/
abbrev cM : Memref sig .tc .vmem S4x8x128x512 .fp8e4m3 := Memref.whole cc0_scratch0

theorem slot_inb (r : Fin 4) (b : Fin 8) :
    ∀ a, (![r.val, b.val, 0, 0] : Fin 4 → Nat) a + S1x1x128x512.size a ≤ S4x8x128x512.size a := by
  revert r b; decide +kernel

/-- Slot `(r, b)`: one block of one row of the buffer. -/
abbrev slotRect (r : Fin 4) (b : Fin 8) : Rect S4x8x128x512 :=
  Rect.unit (s := S4x8x128x512) ![r.val, b.val, 0, 0] S1x1x128x512.size (slot_inb r b)

/-- The slot as a memref of 128 rows. -/
abbrev slotM (r : Fin 4) (b : Fin 8) : Memref sig .tc .vmem S128x512 .fp8e4m3 :=
  (cM.slice (slotRect r b) (fun _ => rfl)).squeeze S128x512 squeezes_S1x1x128x512_S128x512

/-- The values a slot holds. -/
abbrev SlotVal (F : FTy → Type) [FloatOps F] : Type := Vec F S1x1x128x512 .fp8e4m3

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Contents of the buffer with `v` in slot `(r, b)`. -/
def slotBuf (c : Dev nD) (r : Fin 4) (b : Fin 8) (v : SlotVal F) : Buf (Elt F) ((slotM r b).view.loc (c : Thread nD τ)) :=
  (cM.access (slotRect r b)).write (Elt F) (m ((c : Thread nD τ).loc cc0_scratch0)) v Finset.univ

/-- Slot `(r, b)` of device `c`, held at share `q` at contents `f`. -/
def slotPts (c : Dev nD) (r : Fin 4) (b : Fin 8) (q : PosShare TreeShare)
    (f : Buf (Elt F) ((slotM r b).view.loc (c : Thread nD τ))) : sProp 𝕄 :=
  (slotM r b).view.loc (c : Thread nD τ) ↦[(slotM r b).view.set]{q} f

omit [FloatOps F] in
instance slotPts_storable (c : Dev nD) (r : Fin 4) (b : Fin 8) (q : PosShare TreeShare) (f) :
    BI.Storable (upEmb : UEmb _ 𝕄) (slotPts (F := F) c r b q f) := by unfold slotPts; infer_instance

theorem slot_set (r : Fin 4) (b : Fin 8) : (slotM r b).view.set = (cM.access (slotRect r b)).set :=
  View.set_reshape _ _

/-- What is written through a slot is all that its elements then say, whatever was there before. -/
theorem write_slot_eq (c : Dev nD) (r : Fin 4) (b : Fin 8) (v : SlotVal F) (f : Buf (Elt F) ((slotM r b).view.loc (c : Thread nD τ))) :
    ∀ i ∈ (slotM r b).view.set, (cM.access (slotRect r b)).write (Elt F) f v Finset.univ i = slotBuf m c r b v i := by
  intro i hi
  unfold slotBuf
  rw [slot_set] at hi
  exact View.write_congr (fun _ _ _ => rfl) (fun h => absurd hi h)

/-- A slot just written holds the value written. -/
theorem slotPts_write (c : Dev nD) (r : Fin 4) (b : Fin 8) (q : PosShare TreeShare) (v : SlotVal F) (f : Buf (Elt F) ((slotM r b).view.loc (c : Thread nD τ))) :
    (slotPts c r b q ((cM.access (slotRect r b)).write (Elt F) f v Finset.univ) : sProp 𝕄) = slotPts c r b q (slotBuf m c r b v) :=
  pointsTo_congr (write_slot_eq m c r b v f)

/-- Loading a slot that holds `v` reads `v`. -/
theorem read_slot (c : Dev nD) (r : Fin 4) (b : Fin 8) (v : SlotVal F) :
    cM.view.readAt (Elt F) (slotRect r b).toLoadRect (slotBuf m c r b v) = v :=
  View.read_write_univ (v := cM.access (slotRect r b)) _ _

/-- A transfer from a slot holding `v` into a slot leaves `v` there. -/
theorem land_slot (c c' : Dev nD) (r r' : Fin 4) (b : Fin 8) (q : PosShare TreeShare) (v : SlotVal F)
    (f : Buf (Elt F) ((slotM r' b).view.loc (c' : Thread nD τ))) :
    (slotPts c' r' b q ((slotM r' b).view.write (Elt F) f ((slotM r b).view.read (Elt F) (slotBuf m c r b v)) Finset.univ) : sProp 𝕄)
      = slotPts c' r' b q (slotBuf m c' r' b v) := by
  refine pointsTo_congr fun i hi => ?_
  obtain ⟨x, -, rfl⟩ := Finset.mem_map.mp hi
  rw [View.write_emb_of_mem _ _ (Finset.mem_univ x)]
  have h1 : (slotM r b).view.read (Elt F) (slotBuf m c r b v) x
      = v (Shape.reshapeEquiv (Shape.Squeezes.numel_eq squeezes_S1x1x128x512_S128x512) x) :=
    congrFun (View.read_write_univ (v := cM.access (slotRect r b)) (m ((c : Thread nD τ).loc cc0_scratch0)) v)
      (Shape.reshapeEquiv (Shape.Squeezes.numel_eq squeezes_S1x1x128x512_S128x512) x)
  rw [h1]
  exact (View.write_emb_of_mem (v := cM.access (slotRect r' b)) (m ((c' : Thread nD τ).loc cc0_scratch0)) v (Finset.mem_univ _)).symm

/-! ## The cells -/

/-- The runtime's barrier semaphore (not scoped to the launch). -/
abbrev barS : Sem sig := (SemArray.scalar (sig.barrier 0 rfl) : Sems sig S_).sem

/-- The kernel's own scoped semaphores: sixteen for sending, sixteen for receiving. -/
abbrev dsem (i : Fin 32) : DmaSem sig := ⟨6 + i.val, by have := i.isLt; show 6 + i.val < 38; omega⟩
abbrev osem (i : Fin 32) : SemLoc sig := .dma (dsem i)

/-- The send semaphore of transfer `t` among them, -/
def sendIx (t : Fin 16) : Fin 32 := ⟨t.val, by omega⟩
/-- and the receive semaphore. -/
def recvIx (t : Fin 16) : Fin 32 := ⟨16 + t.val, by omega⟩

/-- All of the protocol's semaphores: the barrier (`none`) and the thirty-two. -/
def csem : Option (Fin 32) → SemLoc sig
  | none => .reg barS
  | some i => osem i

abbrev kcell (ck : Dev nD × Option (Fin 32)) : GSem nD τ sig := ((ck.1 : Thread nD τ), csem ck.2)
abbrev barCell (c : Dev nD) : GSem nD τ sig := ((c : Thread nD τ), .reg barS)
abbrev dmaCell (c : Dev nD) (i : Fin 32) : GSem nD τ sig := ((c : Thread nD τ), osem i)
abbrev sendCell (c : Dev nD) (t : Fin 16) : GSem nD τ sig := dmaCell c (sendIx t)
abbrev recvCell (c : Dev nD) (t : Fin 16) : GSem nD τ sig := dmaCell c (recvIx t)

/-- The units one transfer pays. -/
abbrev N : ℕ := (slotM 0 0).view.dmaCredit
theorem N_pos : 0 < N := View.dmaCredit_pos _ (by decide)
theorem slot_credit (r : Fin 4) (b : Fin 8) : (slotM r b).view.dmaCredit = N := rfl

variable (V : Fin 16 → Dev nD → SlotVal F)

/-! ## The schedule -/

/-- The landing slots of device `c'` for the transfers made through partner `d`. -/
def landSlots (c' : Dev nD) (d : Bool) : sProp 𝕄 :=
  bigSep (Finset.univ.filter fun t : Fin 16 => via t = d) fun t => iprop(∃ f, slotPts (F := F) c' (drow t) (col t) fullShare f)

/-- What a send cell hands back: the half of the source slot that travelled. -/
def sendPay (c : Dev nD) (t : Fin 16) : sProp 𝕄 := slotPts c (srow t) (col t) fullShare.right (slotBuf m c (srow t) (col t) (V t c))

/-- What a receive cell hands over: the landing slot with what the partner sent. -/
def recvPay (c : Dev nD) (t : Fin 16) : sProp 𝕄 := slotPts c (drow t) (col t) fullShare (slotBuf m c (drow t) (col t) (V t (pt t c)))

/-- What the thirty-two hand over. -/
def dmaPay (c : Dev nD) (i : Fin 32) : sProp 𝕄 :=
  if h : i.val < 16 then sendPay m V c ⟨i.val, h⟩ else recvPay m V c ⟨i.val - 16, by omega⟩

instance sendPay_storable (c : Dev nD) (t : Fin 16) : BI.Storable (upEmb : UEmb _ 𝕄) (sendPay m V c t) := by unfold sendPay; infer_instance
instance recvPay_storable (c : Dev nD) (t : Fin 16) : BI.Storable (upEmb : UEmb _ 𝕄) (recvPay m V c t) := by unfold recvPay; infer_instance
instance landSlots_storable (c : Dev nD) (d : Bool) : BI.Storable (upEmb : UEmb _ 𝕄) (landSlots (F := F) c d) := by unfold landSlots; infer_instance
instance dmaPay_storable (c : Dev nD) (i : Fin 32) : BI.Storable (upEmb : UEmb _ 𝕄) (dmaPay m V c i) := by
  unfold dmaPay; split <;> infer_instance

/-- One round. A barrier cell has two duties of one unit, one per partner; a cell of the thirty-two has one duty, of one
    transfer's units. -/
def sched : Rounds.Schedule (GSem nD τ sig) Bool 𝕄 where
  duties g r := if r = 0 ∧ g.1.2 = .tc then
      (match g.2 with
        | .reg s => if s = barS then Finset.univ else ∅
        | .dma q => if 6 ≤ q.val then {false} else ∅)
    else ∅
  unitless _ := False
  amount g _ _ := match g.2 with
    | .reg _ => 1
    | .dma _ => N
  payload g _ d := match g.2 with
    | .reg _ => landSlots (peer d g.1.1) d
    | .dma q => if h : 6 ≤ q.val then dmaPay m V g.1.1 ⟨q.val - 6, by have : q.val < 38 := q.isLt; omega⟩ else iprop(emp)
  amount_pos g _ _ _ := by
    rcases g with ⟨th, s | q⟩
    · exact Nat.one_pos
    · exact N_pos

instance sched_payload_storable (g : GSem nD τ sig) (r : ℕ) (d : Bool) : BI.Storable (upEmb : UEmb _ 𝕄) ((sched m V).payload g r d) := by
  rcases g with ⟨th, s | q⟩
  · exact landSlots_storable _ _
  · show BI.Storable upEmb (if h : 6 ≤ q.val then dmaPay m V th.1 _ else iprop(emp))
    split <;> infer_instance

section Sched
variable (c : Dev nD)

theorem duties_bar : (sched m V).duties (barCell c) 0 = Finset.univ := rfl
theorem duties_dma (i : Fin 32) : (sched m V).duties (dmaCell c i) 0 = {false} := by
  show (if (0 : ℕ) = 0 ∧ (c : Thread nD τ).2 = .tc then (if 6 ≤ 6 + i.val then ({false} : Finset Bool) else ∅) else ∅) = {false}
  rw [if_pos ⟨rfl, rfl⟩, if_pos (Nat.le_add_right _ _)]
theorem duties_later (g : GSem nD τ sig) : ∀ r, 1 ≤ r → (sched m V).duties g r = ∅ :=
  fun r hr => if_neg fun h => by omega

theorem amount_bar (d : Bool) : (sched m V).amount (barCell c) 0 d = 1 := rfl
theorem amount_dma (i : Fin 32) (d : Bool) : (sched m V).amount (dmaCell c i) 0 d = N := rfl

theorem expect_bar : (sched m V).expect (barCell c) 0 = 2 := by
  unfold Schedule.expect Schedule.amountOf
  rw [duties_bar, Finset.sum_congr rfl fun d _ => amount_bar m V c d, Finset.sum_const, Finset.card_univ, Fintype.card_bool, smul_eq_mul]
theorem expect_dma (i : Fin 32) : (sched m V).expect (dmaCell c i) 0 = N := by
  unfold Schedule.expect Schedule.amountOf; rw [duties_dma, Finset.sum_singleton, amount_dma]

theorem payload_bar (d : Bool) : (sched m V).payload (barCell c) 0 d = landSlots (peer d c) d := rfl
theorem payload_dma (i : Fin 32) (d : Bool) : (sched m V).payload (dmaCell c i) 0 d = dmaPay m V c i := by
  show (if h : 6 ≤ 6 + i.val then dmaPay m V c ⟨6 + i.val - 6, _⟩ else iprop(emp)) = _
  rw [dif_pos (Nat.le_add_right _ _)]
  congr 1
  exact Fin.ext (Nat.add_sub_cancel_left _ _)
theorem payload_send (t : Fin 16) (d : Bool) : (sched m V).payload (sendCell c t) 0 d = sendPay m V c t := by
  rw [payload_dma]; unfold dmaPay; rw [dif_pos (show (sendIx t).val < 16 from t.isLt)]; rfl
theorem payload_recv (t : Fin 16) (d : Bool) : (sched m V).payload (recvCell c t) 0 d = recvPay m V c t := by
  rw [payload_dma]; unfold dmaPay
  rw [dif_neg (show ¬ (recvIx t).val < 16 from fun h => by have : (recvIx t).val = 16 + t.val := rfl; omega)]
  congr 1
  exact Fin.ext (Nat.add_sub_cancel_left _ _)

/-- The rest of a barrier cell's round: every transfer's landing slot, at the partner it goes to. -/
theorem rest_bar : bigSep ((sched m V).duties (barCell c) 0 \ ∅) (fun d => (sched m V).payload (barCell c) 0 d)
    = (bigSep Finset.univ fun t : Fin 16 => iprop(∃ f, slotPts (F := F) (pt t c) (drow t) (col t) fullShare f) : sProp 𝕄) := by
  rw [Finset.sdiff_empty, duties_bar, bigSep_fiberwise (Finset.univ : Finset (Fin 16)) via,
    show (Finset.univ : Finset (Fin 16)).image via = Finset.univ from by decide]
  refine bigSep_congr fun d _ => ?_
  rw [payload_bar]; unfold landSlots
  exact bigSep_congr fun t ht => by rw [← (Finset.mem_filter.mp ht).2]
theorem rest_send (t : Fin 16) : bigSep ((sched m V).duties (sendCell c t) 0 \ ∅) (fun d => (sched m V).payload (sendCell c t) 0 d) = sendPay m V c t := by
  rw [Finset.sdiff_empty, duties_dma, bigSep_singleton, payload_send]
theorem rest_recv (t : Fin 16) : bigSep ((sched m V).duties (recvCell c t) 0 \ ∅) (fun d => (sched m V).payload (recvCell c t) 0 d) = recvPay m V c t := by
  rw [Finset.sdiff_empty, duties_dma, bigSep_singleton, payload_recv]

end Sched

/-! ## What each device owes, and the levels -/

/-- What `c` owes before it has made transfer `k` (and has made those below `k`): the landing of each from `k` on. -/
def Od (c : Dev nD) (k : ℕ) : CellTallies nD τ sig Unit :=
  ∑ t ∈ Finset.univ.filter (fun t : Fin 16 => k ≤ t.val), tallyAt (recvCell (pt t c) t) () N

/-- At launch: the sixteen landings, a unit to each partner's barrier. The signal to `px c` is the first made. -/
def O₁ (c : Dev nD) : CellTallies nD τ sig Unit := Od c 0 + tallyAt (barCell (peer true c)) () 1
def O₀ (c : Dev nD) : CellTallies nD τ sig Unit := O₁ c + tallyAt (barCell (peer false c)) () 1

theorem Od_step (c : Dev nD) (t : Fin 16) : Od c t.val = Od c (t.val + 1) + tallyAt (recvCell (pt t c) t) () N := by
  unfold Od
  rw [show (Finset.univ.filter fun t' : Fin 16 => t.val ≤ t'.val) = insert t (Finset.univ.filter fun t' : Fin 16 => t.val + 1 ≤ t'.val) from by
      ext t'; simp only [Finset.mem_filter, Finset.mem_univ, true_and, Finset.mem_insert, Fin.ext_iff]; omega,
    Finset.sum_insert (by simp), add_comm]

theorem Od_end (c : Dev nD) : Od c 16 = 0 := by
  unfold Od
  rw [show (Finset.univ.filter fun t' : Fin 16 => 16 ≤ t'.val) = ∅ from by
    ext t'; simp only [Finset.mem_filter, Finset.mem_univ, true_and, Finset.notMem_empty, iff_false]; omega, Finset.sum_empty]

def L (g : GSem nD τ sig) : Finset Unit := if g.1.2 = .tc then {()} else ∅
/-- Barrier cells at 1, the receive cells of step 0 at 2 and of step 1 at 3, everything else at 0. -/
def lv (g : GSem nD τ sig) (_ : Unit) : ℕ := match g.2 with
  | .reg _ => 1
  | .dma q => if 30 ≤ q.val then 3 else if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (t : Fin 16) (u : Unit) : lv (recvCell c t) u = if 8 ≤ t.val then 3 else 2 := by
  show (if 30 ≤ 6 + (16 + t.val) then 3 else if 22 ≤ 6 + (16 + t.val) then 2 else 0) = _
  by_cases h : 8 ≤ t.val
  · rw [if_pos h, if_pos (by omega)]
  · rw [if_neg h, if_neg (by omega), if_pos (by omega)]

theorem Od_pos {c : Dev nD} {k : ℕ} {g : GSem nD τ sig} {u : Unit} (h : 0 < Od c k g u) :
    ∃ t : Fin 16, k ≤ t.val ∧ g = recvCell (pt t c) t := by
  unfold Od at h
  rw [Finset.sum_apply, Finsupp.finset_sum_apply] at h
  obtain ⟨t, ht, hp⟩ := Finset.exists_ne_zero_of_sum_ne_zero (Nat.ne_of_gt h)
  refine ⟨t, (Finset.mem_filter.mp ht).2, ?_⟩
  rw [tallyAt_apply] at hp
  by_contra hn
  exact hp (if_neg fun h' => hn h'.1)

theorem O₁_pos {c : Dev nD} {g : GSem nD τ sig} {u : Unit} (h : 0 < O₁ c g u) :
    (∃ t : Fin 16, g = recvCell (pt t c) t) ∨ ∃ d, g = barCell (peer d c) := by
  unfold O₁ at h
  rw [Pi.add_apply, Finsupp.add_apply] at h
  rcases Nat.add_pos_iff_pos_or_pos.mp h with h | h
  · obtain ⟨t, -, ht⟩ := Od_pos h; exact .inl ⟨t, ht⟩
  · rw [tallyAt_apply] at h
    refine .inr ⟨true, ?_⟩
    by_contra hn
    rw [if_neg fun h' => hn h'.1] at h
    exact Nat.lt_irrefl 0 h

theorem O₀_pos {c : Dev nD} {g : GSem nD τ sig} {u : Unit} (h : 0 < O₀ c g u) :
    (∃ t : Fin 16, g = recvCell (pt t c) t) ∨ ∃ d, g = barCell (peer d c) := by
  unfold O₀ at h
  rw [Pi.add_apply, Finsupp.add_apply] at h
  rcases Nat.add_pos_iff_pos_or_pos.mp h with h | h
  · exact O₁_pos h
  · rw [tallyAt_apply] at h
    refine .inr ⟨false, ?_⟩
    by_contra hn
    rw [if_neg fun h' => hn h'.1] at h
    exact Nat.lt_irrefl 0 h

/-- A staging wait is below everything owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by
        rw [Finset.mem_singleton.mp hp]
        show (if 30 ≤ q.val then 3 else if 22 ≤ q.val then 2 else 0) ≤ 0
        rw [if_neg (by omega), if_neg (by omega)])
      (fun g u hg => by
        rcases O₀_pos hg with ⟨t, rfl⟩ | ⟨d, rfl⟩
        · rw [lv_recv]; split <;> decide
        · show 0 < 1; decide)
  · rw [MayWait_zero]; iintro -; iempintro

/-- At the barrier only landings are owed. -/
theorem mayWait_bar (c : Dev nD) : (levAts L lv : sProp 𝕄) ⊢ MayWait (c : Thread nD τ) (.reg barS) () (Od c 0) :=
  MayOwe.of_cut (L := L) (lev := lv) 1 (fun p hp => by rw [Finset.mem_singleton.mp hp, L_tc]; exact Finset.mem_singleton_self _)
    (fun g u hg => by obtain ⟨t, -, rfl⟩ := Od_pos hg; exact Finset.mem_singleton_self _)
    (fun p hp => by rw [Finset.mem_singleton.mp hp]; exact Nat.le_refl 1)
    (fun g u hg => by
      obtain ⟨t, -, rfl⟩ := Od_pos hg
      rw [lv_recv]; split <;> decide)

/-- At a landing's wait only landings of the later step are owed, or nothing. -/
theorem mayWait_recv (c : Dev nD) (t : Fin 16) (k : ℕ) (hk : k = 16 ∨ (t.val < 8 ∧ 8 ≤ k)) :
    (levAts L lv : sProp 𝕄) ⊢ MayWait (c : Thread nD τ) (osem (recvIx t)) () (Od c k) := by
  rcases hk with rfl | ⟨ht, hk⟩
  · rw [Od_end, MayWait_zero]; iintro -; iempintro
  · exact MayOwe.of_cut (L := L) (lev := lv) 2 (fun p hp => by rw [Finset.mem_singleton.mp hp, L_tc]; exact Finset.mem_singleton_self _)
      (fun g u hg => by obtain ⟨t', -, rfl⟩ := Od_pos hg; exact Finset.mem_singleton_self _)
      (fun p hp => by rw [Finset.mem_singleton.mp hp, lv_recv, if_neg (by omega)])
      (fun g u hg => by
        obtain ⟨t', ht', rfl⟩ := Od_pos hg
        rw [lv_recv, if_pos (by omega)]; decide)

end Cert.MoeRun

end
-- ==== Proof.Steps.lean ====
/-
The steps of the kernel's text as lemmas, each for any transfer or any block: one transfer issued, one landing waited
for, one departure waited for, one load or store of a slot.
-/
module

public import proofs.«01_k».proof.Proof.Protocol

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)
variable (V : Fin 16 → Dev nD → SlotVal F)

/-- A program's weakest precondition on device `c`. -/
abbrev exec {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The persistent facts: every cell's invariant, that every cell has reached round 0, the levels. -/
def Ctx (K : Dev nD × Option (Fin 32) → ℕ) : sProp 𝕄 :=
  iprop((bigSep Finset.univ fun ck : Dev nD × Option (Fin 32) => cellInv ER (sched m V) (K ck) (kcell ck))
    ∗ (bigSep Finset.univ fun ck : Dev nD × Option (Fin 32) => reached ER (kcell ck) 0)
    ∗ levAts L lv)

instance Ctx_persistent (K : Dev nD × Option (Fin 32) → ℕ) : BI.Persistent (Ctx m V K) := by unfold Ctx; infer_instance

variable (K : Dev nD × Option (Fin 32) → ℕ)

theorem ctx_inv (ck : Dev nD × Option (Fin 32)) : Ctx m V K ⊢ cellInv ER (sched m V) (K ck) (kcell ck) := by
  have h : (bigSep Finset.univ fun ck : Dev nD × Option (Fin 32) => (cellInv ER (sched m V) (K ck) (kcell ck) : sProp 𝕄))
      ⊢ cellInv ER (sched m V) (K ck) (kcell ck) := bigSep_elim (Finset.mem_univ ck)
  unfold Ctx; iintro ⟨H, -, -⟩; iapply h; iexact H
theorem ctx_reached (ck : Dev nD × Option (Fin 32)) : Ctx m V K ⊢ reached ER (kcell ck) 0 := by
  have h : (bigSep Finset.univ fun ck : Dev nD × Option (Fin 32) => (reached ER (kcell ck) 0 : sProp 𝕄)) ⊢ reached ER (kcell ck) 0 :=
    bigSep_elim (Finset.mem_univ ck)
  unfold Ctx; iintro ⟨-, H, -⟩; iapply h; iexact H
theorem ctx_lev : Ctx m V K ⊢ levAts L lv := by unfold Ctx; iintro ⟨-, -, H⟩; iexact H

/-- What `c` owes, with any record of the waits it has made. -/
def owesAny (c : Dev nD) (O : CellTallies nD τ sig Unit) : sProp 𝕄 := iprop(∃ W, owes (c : Thread nD τ) O W)

/-! ## The stages of a transfer -/

/-- Transfer `t` of `c` not yet made: the positions at its two cells, the tokens of the two duties it pays, the credit for
    its landing, the partner's landing slot, and its source slot. -/
def Ready (c : Dev nD) (t : Fin 16) : sProp 𝕄 :=
  iprop(atPos ER (sendCell c t) 0 ∅ 0 ∗ atPos ER (recvCell c t) 0 ∅ 0
    ∗ dutyTok ER (sendCell c t) 0 false ∗ dutyTok ER (recvCell (pt t c) t) 0 false
    ∗ cred (tallyAt (recvCell c t) () N)
    ∗ (∃ f, slotPts (F := F) (pt t c) (drow t) (col t) fullShare f) ∗ (∃ f, slotPts (F := F) c (srow t) (col t) fullShare f))

/-- Made: half of the source slot is kept, and the partner's landing is awaited. -/
def Flying (c : Dev nD) (t : Fin 16) : sProp 𝕄 :=
  iprop(atPos ER (sendCell c t) 0 ∅ 0 ∗ cred (tallyAt (sendCell c t) () N)
    ∗ atPos ER (recvCell c t) 0 ∅ 0 ∗ cred (tallyAt (recvCell c t) () N)
    ∗ slotPts c (srow t) (col t) fullShare.left (slotBuf m c (srow t) (col t) (V t c)))

/-- The partner's has landed. -/
def Landed (c : Dev nD) (t : Fin 16) : sProp 𝕄 :=
  iprop(atPos ER (sendCell c t) 0 ∅ 0 ∗ cred (tallyAt (sendCell c t) () N) ∗ semVal (recvCell c t) 0
    ∗ slotPts c (srow t) (col t) fullShare.left (slotBuf m c (srow t) (col t) (V t c))
    ∗ slotPts c (drow t) (col t) fullShare (slotBuf m c (drow t) (col t) (V t (pt t c))))

/-- Over: both cells at zero, both slots whole again. -/
def Over (c : Dev nD) (t : Fin 16) : sProp 𝕄 :=
  iprop(semVal (sendCell c t) 0 ∗ semVal (recvCell c t) 0
    ∗ (∃ f, slotPts (F := F) c (srow t) (col t) fullShare f) ∗ (∃ f, slotPts (F := F) c (drow t) (col t) fullShare f))

/-- A slot held outright is its two halves. -/
theorem halves (c : Dev nD) (r : Fin 4) (b : Fin 8) (f : Buf (Elt F) ((slotM r b).view.loc (c : Thread nD τ))) :
    (slotPts c r b fullShare f : sProp 𝕄) ⊣⊢ iprop(slotPts c r b fullShare.left f ∗ slotPts c r b fullShare.right f) := by
  unfold slotPts
  exact pointsTo_share (by rw [PosShare.left_op_right]; exact Part.mem_some _)

/-! ## One operation -/

section Ops

/-- Making transfer `t`, its source slot holding `V t c`. -/
theorem wp_issue {α : Type} {Q : α → sProp 𝕄} (c n : Dev nD) (t : Fin 16) (hn : n = pt t c)
    {src : Memref sig .tc .vmem S128x512 .fp8e4m3} {dst : Memref sig (Dev.tc n : Thread nD τ).2.kind .vmem S128x512 .fp8e4m3}
    (hs : src = slotM (srow t) (col t)) (hd : dst = slotM (drow t) (col t))
    {sS rS : SemLoc sig} (hsS : sS = osem (sendIx t)) (hrS : rS = osem (recvIx t))
    {hsc : dst.view.ref.isScScratch = false} {hsrc : src.view.WordExact} {hdst : dst.view.WordExact}
    {hsem : DmaTarget.Typed .vmem rS (.remote (Dev.tc n : Thread nD τ) dst sS hsc)}
    {k : PUnit → Prog (TpuEff nD τ sig (Elt F) Λ₀ .tc) α} :
    iprop(Ctx m V K ∗ owesAny c (Od c t.val)
        ∗ atPos ER (sendCell c t) 0 ∅ 0 ∗ atPos ER (recvCell c t) 0 ∅ 0
        ∗ dutyTok ER (sendCell c t) 0 false ∗ dutyTok ER (recvCell (pt t c) t) 0 false
        ∗ cred (tallyAt (recvCell c t) () N)
        ∗ (∃ f, slotPts (F := F) (pt t c) (drow t) (col t) fullShare f)
        ∗ slotPts c (srow t) (col t) fullShare (slotBuf m c (srow t) (col t) (V t c)))
      ⊢ iprop((owesAny c (Od c (t.val + 1)) ∗ Flying m V c t -∗ exec c (k ⟨⟩) Q)
          -∗ exec c (.op (.enqueueDma src (.remote (Dev.tc n : Thread nD τ) dst sS hsc) rS hsrc hdst hsem) k) Q) := by
  subst hn; subst hs; subst hd; subst hsS; subst hrS
  unfold owesAny
  iintro ⟨#HC, ⟨%W, HO⟩, HaS, HaR, HtS, HtR, Hcr, ⟨%fd, Hd⟩, Hs⟩ Hk
  ihave Hs2 := (halves c (srow t) (col t) _).1 $$ Hs
  icases Hs2 with ⟨Hl, Hr⟩
  iapply (Rounds.wp_send_pointsTo 𝒱₀ ER (sched m V) (c : Thread nD τ) none (κ₁ := K (c, some (sendIx t))) (κ₂ := K (pt t c, some (recvIx t)))
      (r₁ := 0) (r₂ := 0) (d₁ := false) (d₂ := false) (fd := fd)
      (by rw [duties_dma]; exact Finset.mem_singleton_self _) (by rw [duties_dma]; exact Finset.mem_singleton_self _)
      () () N rfl (amount_dma m V c _ false) (amount_dma m V (pt t c) _ false) (Od c (t.val + 1)) (Od_step c t) (W := W)
      (by rw [payload_send]; exact BI.Entails.refl _)
      (by rw [payload_recv]; unfold recvPay; rw [pt_pt]; exact Entails.of_eq (land_slot m c (pt t c) (srow t) (drow t) (col t) fullShare (V t c) fd)))
    $$ [HO HtS HtR Hd Hr]
  · isplitr; · iapply (ctx_inv m V K (c, some (sendIx t))); iexact HC
    isplitr; · iapply (ctx_inv m V K (pt t c, some (recvIx t))); iexact HC
    isplitl [Hr]; · unfold slotPts; iexact Hr
    isplitl [Hd]; · unfold slotPts; iexact Hd
    isplitl [HO]; · iexact HO
    isplitl [HtS]; · iexact HtS
    isplitr; · iapply (ctx_reached m V K (c, some (sendIx t))); iexact HC
    isplitl [HtR]; · iexact HtR
    iapply (ctx_reached m V K (pt t c, some (recvIx t))); iexact HC
  iintro ⟨HcS, HO⟩
  iapply Hk
  isplitl [HO]; · iexists W; iexact HO
  unfold Flying
  isplitl [HaS]; · iexact HaS
  isplitl [HcS]; · iexact HcS
  isplitl [HaR]; · iexact HaR
  isplitl [Hcr]; · iexact Hcr
  iexact Hl

/-- Waiting for the landing of transfer `t`; its cell closes at once. -/
theorem wp_land {α : Type} {Q : α → sProp 𝕄} (c : Dev nD) (t : Fin 16) (j : ℕ) (hj : j = 16 ∨ (t.val < 8 ∧ 8 ≤ j))
    {src dst : Memref sig .tc .vmem S128x512 .fp8e4m3} (hd : dst.view.dmaCredit = N)
    {rS : DmaSem sig} (hrS : rS = dsem (recvIx t))
    {hsrc : src.view.WordExact} {hdst : dst.view.WordExact}
    {k : PUnit → Prog (TpuEff nD τ sig (Elt F) Λ₀ .tc) α} :
    iprop(Ctx m V K ∗ owesAny c (Od c j) ∗ Flying m V c t)
      ⊢ iprop((owesAny c (Od c j) ∗ Landed m V c t -∗ exec c (k ⟨⟩) Q)
          -∗ exec c (.op (.waitDma2 rS src dst hsrc hdst) k) Q) := by
  subst hrS
  unfold owesAny Flying
  iintro ⟨#HC, ⟨%W, HO⟩, HaS, HcS, HaR, HcR, Hs⟩ Hk
  iapply (Rounds.wp_wait_rest_token 𝒱₀ ER (sched m V) (c : Thread nD τ) none (κ := K (c, some (recvIx t))) (k' := N)
      (fun K' => (wpE_waitDma2_eq 𝒱₀ (c : Thread nD τ) none Set.univ K').trans (by rw [hd])) (Set.mem_univ _) () (O := Od c j) (W := W) (R := 0) (m := 0) (T := ∅)
      (by rw [Nat.zero_add, expect_dma])) $$ [HcR HO HaR]
  · isplitr; · iapply (ctx_inv m V K (c, some (recvIx t))); iexact HC
    isplitl [HcR]; · iexact HcR
    isplitl [HO]; · iexact HO
    isplitr; · iapply (mayWait_recv c t j hj); iapply (ctx_lev m V K); iexact HC
    iexact HaR
  iintro ⟨HO, HaR, -, Hpay⟩
  ihave Hd := (Entails.of_eq (rest_recv m V c t)) $$ Hpay
  imod (Rounds.cell_close ER (sched m V) (Set.mem_univ (K (c, some (recvIx t)))) (fun h => h) (R := 0 + 1) (duties_later m V (recvCell c t))) $$ [HaR] with Hz
  · isplitr; · iapply (ctx_inv m V K (c, some (recvIx t))); iexact HC
    iexact HaR
  iapply Hk
  isplitl [HO]; · iexists _; iexact HO
  unfold Landed
  isplitl [HaS]; · iexact HaS
  isplitl [HcS]; · iexact HcS
  isplitl [Hz]; · iexact Hz
  isplitl [Hs]; · iexact Hs
  unfold recvPay; iexact Hd

/-- Waiting for the departure of transfer `t`: the two halves of its source slot meet again, its cell closes. -/
theorem wp_back {α : Type} {Q : α → sProp 𝕄} (c : Dev nD) (t : Fin 16)
    {src dst : Memref sig .tc .vmem S128x512 .fp8e4m3} (hd : dst.view.dmaCredit = N)
    {sS : DmaSem sig} (hsS : sS = dsem (sendIx t))
    {hsrc : src.view.WordExact} {hdst : dst.view.WordExact}
    {k : PUnit → Prog (TpuEff nD τ sig (Elt F) Λ₀ .tc) α} :
    iprop(Ctx m V K ∗ owesAny c 0 ∗ Landed m V c t)
      ⊢ iprop((owesAny c 0 ∗ Over c t -∗ exec c (k ⟨⟩) Q)
          -∗ exec c (.op (.waitDma2 sS src dst hsrc hdst) k) Q) := by
  subst hsS
  unfold owesAny Landed
  iintro ⟨#HC, ⟨%W, HO⟩, HaS, HcS, Hz, Hl, Hd⟩ Hk
  iapply (Rounds.wp_wait_rest_token 𝒱₀ ER (sched m V) (c : Thread nD τ) none (κ := K (c, some (sendIx t))) (k' := N)
      (fun K' => (wpE_waitDma2_eq 𝒱₀ (c : Thread nD τ) none Set.univ K').trans (by rw [hd])) (Set.mem_univ _) () (O := 0) (W := W) (R := 0) (m := 0) (T := ∅)
      (by rw [Nat.zero_add, expect_dma])) $$ [HcS HO HaS]
  · isplitr; · iapply (ctx_inv m V K (c, some (sendIx t))); iexact HC
    isplitl [HcS]; · iexact HcS
    isplitl [HO]; · iexact HO
    isplitr; · rw [MayWait_zero]; iempintro
    iexact HaS
  iintro ⟨HO, HaS, -, Hpay⟩
  ihave Hr := (Entails.of_eq (rest_send m V c t)) $$ Hpay
  imod (Rounds.cell_close ER (sched m V) (Set.mem_univ (K (c, some (sendIx t)))) (fun h => h) (R := 0 + 1) (duties_later m V (sendCell c t))) $$ [HaS] with Hz'
  · isplitr; · iapply (ctx_inv m V K (c, some (sendIx t))); iexact HC
    iexact HaS
  iapply Hk
  isplitl [HO]; · iexists _; iexact HO
  unfold Over
  isplitl [Hz']; · iexact Hz'
  isplitl [Hz]; · iexact Hz
  isplitl [Hl Hr]
  · iexists _
    unfold sendPay
    iapply (halves c (srow t) (col t) _).2
    isplitl [Hl]; · iexact Hl
    iexact Hr
  iexists _; iexact Hd

/-- Loading the slot `(r, b)`. -/
theorem wp_load_slot {α : Type} {Q : α → sProp 𝕄} (c : Dev nD) (r : Fin 4) (b : Fin 8) (q : PosShare TreeShare) {o : Fin 4 → ℕ} (ho : o = ![r.val, b.val, 0, 0])
    {inb : ∀ a, o a + S1x1x128x512.size a ≤ S4x8x128x512.size a}
    {f : Buf (Elt F) ((slotM r b).view.loc (c : Thread nD τ))}
    {hl : cM.view.LoadsAt (Rect.unit (s := S4x8x128x512) o S1x1x128x512.size inb).toLoadRect}
    {k : SlotVal F → Prog (TpuEff nD τ sig (Elt F) Λ₀ .tc) α} :
    (slotPts c r b q f : sProp 𝕄)
      ⊢ iprop((slotPts c r b q f -∗ exec c (k (cM.view.readAt (Elt F) (slotRect r b).toLoadRect f)) Q)
          -∗ exec c (.op (.load cM (Rect.unit (s := S4x8x128x512) o S1x1x128x512.size inb).toLoadRect hl) k) Q) := by
  subst ho
  unfold slotPts
  exact wp_load 𝒱₀ (c : Thread nD τ) none Set.univ (m := cM) (r := (slotRect r b).toLoadRect)
    (by rw [slot_set, View.set_slice]; exact Finset.Subset.refl _)

/-- Storing `v` into the slot `(r, b)`. -/
theorem wp_store_slot {α : Type} {Q : α → sProp 𝕄} (c : Dev nD) (r : Fin 4) (b : Fin 8) {o : Fin 4 → ℕ} (ho : o = ![r.val, b.val, 0, 0])
    {inb : ∀ a, o a + S1x1x128x512.size a ≤ S4x8x128x512.size a} {v : SlotVal F}
    {f : Buf (Elt F) ((slotM r b).view.loc (c : Thread nD τ))}
    {hx : (cM.access (Rect.unit (s := S4x8x128x512) o S1x1x128x512.size inb)).Stores Finset.univ}
    {hm : Finset.univ = Finset.univ ∨ ∀ a, (Rect.unit (s := S4x8x128x512) o S1x1x128x512.size inb).stride a = 1}
    {k : PUnit → Prog (TpuEff nD τ sig (Elt F) Λ₀ .tc) α} :
    (slotPts c r b fullShare f : sProp 𝕄)
      ⊢ iprop((slotPts c r b fullShare (slotBuf m c r b v) -∗ exec c (k ⟨⟩) Q)
          -∗ exec c (.op (.store cM (Rect.unit (s := S4x8x128x512) o S1x1x128x512.size inb) v Finset.univ hx hm) k) Q) := by
  subst ho
  rw [← slotPts_write m c r b fullShare v f]
  unfold slotPts
  exact wp_store 𝒱₀ (c : Thread nD τ) none Set.univ (m := cM) (r := slotRect r b) (Mk := Finset.univ) (w := v) (hx := hx) (hm := hm)
    (by rw [View.setOn_univ, slot_set])

end Ops

end Cert.MoeRun

end
-- ==== Proof.Stretches.lean ====
/-
The three recurring stretches of the kernel's text, each for any row block: a partial stored and sent at step 0; the
partner's taken in, the sum stored and sent at step 1; the partner's sum taken in and a row block of the result stored.
-/
module

public import proofs.«01_k».proof.Proof.Steps

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (V : Fin 16 → Dev nD → SlotVal F)
variable (K : Dev nD × Option (Fin 32) → ℕ)

/-! ## The result by row blocks -/

/-- The result's staging buffer. -/
abbrev oM : Memref sig .tc .vmem S1024x512 .f32 := Memref.whole cc0_stg5_0

theorem out_inb (b : Fin 8) : ∀ a, (![128 * b.val, 0] : Fin 2 → Nat) a + S128x512.size a ≤ S1024x512.size a := by
  revert b; decide +kernel

/-- Row block `b` of the result. -/
abbrev outRect (b : Fin 8) : Rect S1024x512 := Rect.unit (s := S1024x512) ![128 * b.val, 0] S128x512.size (out_inb b)

/-- What the result's buffer holds. -/
abbrev OutVal (F : FTy → Type) [FloatOps F] : Type := (cc0_stg5_0 : Ref sig .tc).ty.Contents (Elt F)

/-- The row block an element is in, -/
def rowBlk (i : S1024x512.Idx) : Fin 8 := ⟨(i 0).val / 128, by have : (i 0).val < 1024 := (i 0).isLt; omega⟩
/-- and its place there. -/
def rowIn (i : S1024x512.Idx) : S128x512.Idx
  | ⟨0, _⟩ => (⟨(i 0).val % 128, Nat.mod_lt _ (by decide)⟩ : Fin 128)
  | ⟨1, _⟩ => (i 1 : Fin 512)

theorem row_emb (i : S1024x512.Idx) : (outRect (rowBlk i)).emb (rowIn i) = i := by
  funext a
  refine Fin.ext ?_
  rw [Rect.emb_apply]
  fin_cases a
  · show 128 * ((i 0).val / 128) + 1 * ((i 0).val % 128) = (i 0).val
    omega
  · show 0 + 1 * (i 1).val = (i 1).val
    omega

theorem emb_row {b b' : Fin 8} {x x' : S128x512.Idx} (h : (outRect b).emb x = (outRect b').emb x') : b = b' := by
  have h0 := congrArg (fun i : S1024x512.Idx => (i 0).val) h
  have h1 : 128 * b.val + 1 * (x 0).val = 128 * b'.val + 1 * (x' 0).val := h0
  have hx : (x 0).val < 128 := (x 0).isLt
  have hx' : (x' 0).val < 128 := (x' 0).isLt
  exact Fin.ext (by omega)

variable (O : Fin 8 → FVec F S128x512 .f32)

/-- The row blocks `O` put together. -/
def stacked : OutVal F := fun i => O (rowBlk i) (rowIn i)

/-- The first `k` row blocks of `f` are those of `O`. -/
def FilledTo (k : ℕ) (f : OutVal F) : Prop := ∀ b : Fin 8, b.val < k → ∀ x, f ((outRect b).emb x) = O b x

theorem filled_all {f : OutVal F} (h : FilledTo O 8 f) : f = stacked O := by
  funext i
  have := h (rowBlk i) (rowBlk i).isLt (rowIn i)
  rw [row_emb] at this
  exact this

/-- Writing row block `b` fills one more. -/
theorem filled_step (b : Fin 8) {f : OutVal F} (h : FilledTo O b.val f) :
    FilledTo O (b.val + 1) ((oM.access (outRect b)).write (Elt F) f (O b) Finset.univ) := by
  intro b' hb' x
  rcases Nat.lt_succ_iff_lt_or_eq.mp hb' with h' | h'
  · rw [← h b' h' x]
    refine View.write_of_not_mem (v := oM.access (outRect b)) f (O b) Finset.univ fun hmem => ?_
    obtain ⟨y, -, hy⟩ := Finset.mem_map.mp hmem
    have hy' : (outRect b).emb y = (outRect b').emb x := hy
    have := congrArg Fin.val (emb_row hy')
    omega
  · have e : b' = b := Fin.ext h'
    subst e
    exact View.write_emb_of_mem (v := oM.access (outRect b')) f (O b') (Finset.mem_univ x)

/-- The result's buffer with its first `k` row blocks done. -/
def OutTo (c : Dev nD) (k : ℕ) : sProp 𝕄 :=
  iprop(∃ f : Buf (Elt F) ((c : Thread nD τ).loc cc0_stg5_0), ⌜FilledTo O k f⌝ ∗ (((c : Thread nD τ).loc cc0_stg5_0) ↦{fullShare} f))

/-! ## The stretches -/

/-- The partial of block `b` stored and sent. -/
theorem wp_first {α : Type} {Q : α → sProp 𝕄} (c n : Dev nD) (t : Fin 16) (hn : n = pt t c)
    {src : Memref sig .tc .vmem S128x512 .fp8e4m3} {dst : Memref sig (Dev.tc n : Thread nD τ).2.kind .vmem S128x512 .fp8e4m3}
    (hs : src = slotM (srow t) (col t)) (hd : dst = slotM (drow t) (col t))
    {sS rS : SemLoc sig} (hsS : sS = osem (sendIx t)) (hrS : rS = osem (recvIx t))
    {hsc : dst.view.ref.isScScratch = false} {hsrc : src.view.WordExact} {hdst : dst.view.WordExact}
    {hsem : DmaTarget.Typed .vmem rS (.remote (Dev.tc n : Thread nD τ) dst sS hsc)}
    {o : Fin 4 → ℕ} (ho : o = ![(srow t).val, (col t).val, 0, 0])
    {inb : ∀ a, o a + S1x1x128x512.size a ≤ S4x8x128x512.size a} {v : SlotVal F} (hv : v = V t c)
    {hl : cM.view.LoadsAt (Rect.unit (s := S4x8x128x512) o S1x1x128x512.size inb).toLoadRect}
    {hx : (cM.access (Rect.unit (s := S4x8x128x512) o S1x1x128x512.size inb)).Stores Finset.univ}
    {hm : Finset.univ = Finset.univ ∨ ∀ a, (Rect.unit (s := S4x8x128x512) o S1x1x128x512.size inb).stride a = 1}
    {k : PUnit → Prog (TpuEff nD τ sig (Elt F) Λ₀ .tc) α} :
    iprop(Ctx m V K ∗ owesAny c (Od c t.val) ∗ Ready (F := F) c t)
      ⊢ iprop((owesAny c (Od c (t.val + 1)) ∗ Flying m V c t -∗ exec c (k ⟨⟩) Q)
          -∗ exec c (.op (.load cM (Rect.unit (s := S4x8x128x512) o S1x1x128x512.size inb).toLoadRect hl) fun _ =>
              .op (.store cM (Rect.unit (s := S4x8x128x512) o S1x1x128x512.size inb) v Finset.univ hx hm) fun _ =>
              .op (.enqueueDma src (.remote (Dev.tc n : Thread nD τ) dst sS hsc) rS hsrc hdst hsem) k) Q) := by
  subst hv
  unfold Ready
  iintro ⟨#HC, HO, HaS, HaR, HtS, HtR, Hcr, Hd, ⟨%f, Hs⟩⟩ Hk
  iapply (wp_load_slot c (srow t) (col t) fullShare ho) $$ Hs
  iintro Hs
  iapply (wp_store_slot m c (srow t) (col t) ho) $$ Hs
  iintro Hs
  iapply (wp_issue m V K c n t hn hs hd hsS hrS) $$ [HO HaS HaR HtS HtR Hcr Hd Hs]
  · isplitr; · iexact HC
    isplitl [HO]; · iexact HO
    isplitl [HaS]; · iexact HaS
    isplitl [HaR]; · iexact HaR
    isplitl [HtS]; · iexact HtS
    isplitl [HtR]; · iexact HtR
    isplitl [Hcr]; · iexact Hcr
    isplitl [Hd]; · iexact Hd
    iexact Hs
  iexact Hk

/-- The landing of transfer `t` awaited, the pair summed into the slot transfer `u` leaves from, and `u` sent. -/
theorem wp_exchange {α : Type} {Q : α → sProp 𝕄} (c n : Dev nD) (t u : Fin 16) (ht : t.val < 8) (hu : 8 ≤ u.val) (hn : n = pt u c)
    {wsrc wdst : Memref sig .tc .vmem S128x512 .fp8e4m3} (hwd : wdst.view.dmaCredit = N)
    {wS : DmaSem sig} (hwS : wS = dsem (recvIx t)) {hwsrc : wsrc.view.WordExact} {hwdst : wdst.view.WordExact}
    {src : Memref sig .tc .vmem S128x512 .fp8e4m3} {dst : Memref sig (Dev.tc n : Thread nD τ).2.kind .vmem S128x512 .fp8e4m3}
    (hs : src = slotM (srow u) (col u)) (hd : dst = slotM (drow u) (col u))
    {sS rS : SemLoc sig} (hsS : sS = osem (sendIx u)) (hrS : rS = osem (recvIx u))
    {hsc : dst.view.ref.isScScratch = false} {hsrc : src.view.WordExact} {hdst : dst.view.WordExact}
    {hsem : DmaTarget.Typed .vmem rS (.remote (Dev.tc n : Thread nD τ) dst sS hsc)}
    {o₀ o₁ o₂ : Fin 4 → ℕ} (ho₀ : o₀ = ![(srow t).val, (col t).val, 0, 0]) (ho₁ : o₁ = ![(drow t).val, (col t).val, 0, 0])
    (ho₂ : o₂ = ![(srow u).val, (col u).val, 0, 0])
    {inb₀ : ∀ a, o₀ a + S1x1x128x512.size a ≤ S4x8x128x512.size a} {inb₁ : ∀ a, o₁ a + S1x1x128x512.size a ≤ S4x8x128x512.size a}
    {inb₂ : ∀ a, o₂ a + S1x1x128x512.size a ≤ S4x8x128x512.size a}
    {g : SlotVal F → SlotVal F → SlotVal F} (hg : g (V t c) (V t (pt t c)) = V u c)
    {hl₀ : cM.view.LoadsAt (Rect.unit (s := S4x8x128x512) o₀ S1x1x128x512.size inb₀).toLoadRect}
    {hl₁ : cM.view.LoadsAt (Rect.unit (s := S4x8x128x512) o₁ S1x1x128x512.size inb₁).toLoadRect}
    {hl₂ : cM.view.LoadsAt (Rect.unit (s := S4x8x128x512) o₂ S1x1x128x512.size inb₂).toLoadRect}
    {hx : (cM.access (Rect.unit (s := S4x8x128x512) o₂ S1x1x128x512.size inb₂)).Stores Finset.univ}
    {hm : Finset.univ = Finset.univ ∨ ∀ a, (Rect.unit (s := S4x8x128x512) o₂ S1x1x128x512.size inb₂).stride a = 1}
    {k : PUnit → Prog (TpuEff nD τ sig (Elt F) Λ₀ .tc) α} :
    iprop(Ctx m V K ∗ owesAny c (Od c u.val) ∗ Flying m V c t ∗ Ready (F := F) c u)
      ⊢ iprop((owesAny c (Od c (u.val + 1)) ∗ Landed m V c t ∗ Flying m V c u -∗ exec c (k ⟨⟩) Q)
          -∗ exec c (.op (.waitDma2 wS wsrc wdst hwsrc hwdst) fun _ =>
              .op (.load cM (Rect.unit (s := S4x8x128x512) o₀ S1x1x128x512.size inb₀).toLoadRect hl₀) fun x =>
              .op (.load cM (Rect.unit (s := S4x8x128x512) o₁ S1x1x128x512.size inb₁).toLoadRect hl₁) fun y =>
              .op (.load cM (Rect.unit (s := S4x8x128x512) o₂ S1x1x128x512.size inb₂).toLoadRect hl₂) fun _ =>
              .op (.store cM (Rect.unit (s := S4x8x128x512) o₂ S1x1x128x512.size inb₂) (g x y) Finset.univ hx hm) fun _ =>
              .op (.enqueueDma src (.remote (Dev.tc n : Thread nD τ) dst sS hsc) rS hsrc hdst hsem) k) Q) := by
  iintro ⟨#HC, HO, Hf, Hr⟩ Hk
  iapply (wp_land m V K c t u.val (.inr ⟨ht, hu⟩) hwd hwS) $$ [HO Hf]
  · isplitr; · iexact HC
    isplitl [HO]; · iexact HO
    iexact Hf
  iintro ⟨HO, Hf⟩
  unfold Landed
  icases Hf with ⟨HaS, HcS, Hz, Hl, Hd⟩
  iapply (wp_load_slot c (srow t) (col t) fullShare.left ho₀) $$ Hl
  iintro Hl
  iapply (wp_load_slot c (drow t) (col t) fullShare ho₁) $$ Hd
  iintro Hd
  rw [read_slot, read_slot, hg]
  unfold Ready
  icases Hr with ⟨HbS, HbR, HtS, HtR, Hcr, He, ⟨%f, Hs⟩⟩
  iapply (wp_load_slot c (srow u) (col u) fullShare ho₂) $$ Hs
  iintro Hs
  iapply (wp_store_slot m c (srow u) (col u) ho₂) $$ Hs
  iintro Hs
  iapply (wp_issue m V K c n u hn hs hd hsS hrS) $$ [HO HbS HbR HtS HtR Hcr He Hs]
  · isplitr; · iexact HC
    isplitl [HO]; · iexact HO
    isplitl [HbS]; · iexact HbS
    isplitl [HbR]; · iexact HbR
    isplitl [HtS]; · iexact HtS
    isplitl [HtR]; · iexact HtR
    isplitl [Hcr]; · iexact Hcr
    isplitl [He]; · iexact He
    iexact Hs
  iintro ⟨HO, HF⟩
  iapply Hk
  isplitl [HO]; · iexact HO
  isplitr [HF]
  · isplitl [HaS]; · iexact HaS
    isplitl [HcS]; · iexact HcS
    isplitl [Hz]; · iexact Hz
    isplitl [Hl]; · iexact Hl
    iexact Hd
  iexact HF

/-- The landing of transfer `t` awaited and row block `b` of the result stored. -/
theorem wp_final {α : Type} {Q : α → sProp 𝕄} (c : Dev nD) (t : Fin 16) (b : Fin 8)
    {wsrc wdst : Memref sig .tc .vmem S128x512 .fp8e4m3} (hwd : wdst.view.dmaCredit = N)
    {wS : DmaSem sig} (hwS : wS = dsem (recvIx t)) {hwsrc : wsrc.view.WordExact} {hwdst : wdst.view.WordExact}
    {o₀ o₁ : Fin 4 → ℕ} (ho₀ : o₀ = ![(srow t).val, (col t).val, 0, 0]) (ho₁ : o₁ = ![(drow t).val, (col t).val, 0, 0])
    {o : Fin 2 → ℕ} (ho : o = ![128 * b.val, 0])
    {inb₀ : ∀ a, o₀ a + S1x1x128x512.size a ≤ S4x8x128x512.size a} {inb₁ : ∀ a, o₁ a + S1x1x128x512.size a ≤ S4x8x128x512.size a}
    {inb : ∀ a, o a + S128x512.size a ≤ S1024x512.size a}
    {g : SlotVal F → SlotVal F → FVec F S128x512 .f32} (hg : g (V t c) (V t (pt t c)) = O b)
    {hl₀ : cM.view.LoadsAt (Rect.unit (s := S4x8x128x512) o₀ S1x1x128x512.size inb₀).toLoadRect}
    {hl₁ : cM.view.LoadsAt (Rect.unit (s := S4x8x128x512) o₁ S1x1x128x512.size inb₁).toLoadRect}
    {hl : oM.view.LoadsAt (Rect.unit (s := S1024x512) o S128x512.size inb).toLoadRect}
    {hx : (oM.access (Rect.unit (s := S1024x512) o S128x512.size inb)).Stores Finset.univ}
    {hm : Finset.univ = Finset.univ ∨ ∀ a, (Rect.unit (s := S1024x512) o S128x512.size inb).stride a = 1}
    {k : PUnit → Prog (TpuEff nD τ sig (Elt F) Λ₀ .tc) α} :
    iprop(Ctx m V K ∗ owesAny c (Od c 16) ∗ Flying m V c t ∗ OutTo O c b.val)
      ⊢ iprop((owesAny c (Od c 16) ∗ Landed m V c t ∗ OutTo O c (b.val + 1) -∗ exec c (k ⟨⟩) Q)
          -∗ exec c (.op (.waitDma2 wS wsrc wdst hwsrc hwdst) fun _ =>
              .op (.load cM (Rect.unit (s := S4x8x128x512) o₀ S1x1x128x512.size inb₀).toLoadRect hl₀) fun x =>
              .op (.load cM (Rect.unit (s := S4x8x128x512) o₁ S1x1x128x512.size inb₁).toLoadRect hl₁) fun y =>
              .op (.load oM (Rect.unit (s := S1024x512) o S128x512.size inb).toLoadRect hl) fun _ =>
              .op (.store oM (Rect.unit (s := S1024x512) o S128x512.size inb) (g x y) Finset.univ hx hm) k) Q) := by
  subst ho
  iintro ⟨#HC, HO, Hf, Hout⟩ Hk
  iapply (wp_land m V K c t 16 (.inl rfl) hwd hwS) $$ [HO Hf]
  · isplitr; · iexact HC
    isplitl [HO]; · iexact HO
    iexact Hf
  iintro ⟨HO, Hf⟩
  unfold Landed
  icases Hf with ⟨HaS, HcS, Hz, Hl, Hd⟩
  iapply (wp_load_slot c (srow t) (col t) fullShare.left ho₀) $$ Hl
  iintro Hl
  iapply (wp_load_slot c (drow t) (col t) fullShare ho₁) $$ Hd
  iintro Hd
  rw [read_slot, read_slot, hg]
  unfold OutTo
  icases Hout with ⟨%f, %hf, Hout⟩
  iapply (wp_load 𝒱₀ (c : Thread nD τ) none Set.univ (m := oM) (Finset.subset_univ _)) $$ Hout
  iintro Hout
  iapply (wp_store 𝒱₀ (c : Thread nD τ) none Set.univ (m := oM) (r := outRect b) (Mk := Finset.univ) (Finset.subset_univ _)) $$ Hout
  iintro Hout
  iapply Hk
  isplitl [HO]; · iexact HO
  isplitr [Hout]
  · isplitl [HaS]; · iexact HaS
    isplitl [HcS]; · iexact HcS
    isplitl [Hz]; · iexact Hz
    isplitl [Hl]; · iexact Hl
    iexact Hd
  iexists _
  isplitr
  · ipureintro; exact filled_step O b hf
  iexact Hout

end Cert.MoeRun

end
-- ==== Proof.Contents.lean ====
/-
What the kernel computes on each device, in the terms of its own text: the partial of each row block, the sum of two
devices' partials, and the row blocks of the result.
-/
module

public import proofs.«01_k».proof.Proof.Stretches

@[expose] public section

noncomputable section

namespace Cert.MoeRun

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

/-! ## The arguments as staged -/

def xS (c : Dev nD) : (cc0_stg0_0 : Ref sig .tc).ty.Contents (Elt F) :=
  (win0_0.blk (0 : Fin 1)).view.read (Elt F) ((s₀ m ρ).mem ((c : Thread nD τ).loc main_arg0))
def rwS (c : Dev nD) : (cc0_stg1_0 : Ref sig .tc).ty.Contents (Elt F) :=
  (win0_1.blk (0 : Fin 1)).view.read (Elt F) ((s₀ m ρ).mem ((c : Thread nD τ).loc main_arg1))
def idS (c : Dev nD) : (cc0_stg2_0 : Ref sig .tc).ty.Contents (Elt F) :=
  (win0_2.blk (0 : Fin 1)).view.read (Elt F) ((s₀ m ρ).mem ((c : Thread nD τ).loc main_arg2))
def ewS (c : Dev nD) : (cc0_stg3_0 : Ref sig .tc).ty.Contents (Elt F) :=
  (win0_3.blk (0 : Fin 1)).view.read (Elt F) ((s₀ m ρ).mem ((c : Thread nD τ).loc main_arg3))
def swS (c : Dev nD) : (cc0_stg4_0 : Ref sig .tc).ty.Contents (Elt F) :=
  (win0_4.blk (0 : Fin 1)).view.read (Elt F) ((s₀ m ρ).mem ((c : Thread nD τ).loc main_arg4))

theorem ew_inb (e : Fin 4) : ∀ a, (![e.val, 0, 0] : Fin 3 → Nat) a + S1x256x512.size a ≤ S4x256x512.size a := by
  revert e; decide +kernel

/-- The weights of local expert `e`. -/
def ewAt (c : Dev nD) (e : Fin 4) : Vec F S1x256x512 .f32 :=
  (Memref.whole cc0_stg3_0 : Memref sig .tc .vmem S4x256x512 .f32).view.readAt (Elt F)
    (Rect.unit (s := S4x256x512) ![e.val, 0, 0] S1x256x512.size (ew_inb e)).toLoadRect (ewS m ρ c)

/-! ## Values every block uses -/

/-- The device's rank, as a word. -/
def rank (c : Dev nD) : BitVec 32 := Scalar.remsi (Scalar.divsi (Dev.word c) 1#32) 4#32
def tokens (c : Dev nD) : FVec F S1024x256 .f32 := k0_pay1 (xS m ρ c)
def routes (c : Dev nD) : IVec S1024x1 32 := k0_pay2 (F := F) (idS m ρ c)
def gates (c : Dev nD) : FVec F S1024x1 .f32 := k0_pay3 (xS m ρ c) (rwS m ρ c) (idS m ρ c)
def w0 (c : Dev nD) : FVec F S256x512 .bf16 := k0_pay4 (ewAt m ρ c 0)
def w1 (c : Dev nD) : FVec F S256x512 .bf16 := k0_pay5 (ewAt m ρ c 1)
def w2 (c : Dev nD) : FVec F S256x512 .bf16 := k0_pay6 (ewAt m ρ c 2)
def w3 (c : Dev nD) : FVec F S256x512 .bf16 := k0_pay7 (ewAt m ρ c 3)
/-- The shared expert's output. -/
def shared (c : Dev nD) : FVec F S1024x512 .f32 := k0_pay55 (k0_pay8 (tokens m ρ c)) (swS m ρ c)

/-- The device's partial of row block `b`. -/
def part (c : Dev nD) : Fin 8 → SlotVal F
  | 0 => k0_pay13 (rank c) (w2 m ρ c) (w3 m ρ c) (k0_pay9 (tokens m ρ c)) (k0_pay10 (routes m ρ c)) (k0_pay11 (gates m ρ c))
      (k0_pay12 (rank c) (tokens m ρ c) (routes m ρ c) (gates m ρ c) (ewAt m ρ c 0) (ewAt m ρ c 1))
  | 1 => k0_pay20 (w3 m ρ c) (k0_pay14 (tokens m ρ c)) (k0_pay16 (gates m ρ c))
      (k0_pay17 (rank c) (tokens m ρ c) (routes m ρ c) (gates m ρ c) (w0 m ρ c) (w1 m ρ c) (w2 m ρ c)) (k0_pay18 (rank c) (routes m ρ c)) k0_pay19
  | 2 => k0_pay25 (rank c) (w1 m ρ c) (w2 m ρ c) (w3 m ρ c) (k0_pay21 (tokens m ρ c)) (k0_pay22 (routes m ρ c)) (k0_pay23 (gates m ρ c))
      (k0_pay24 (rank c) (tokens m ρ c) (routes m ρ c) (gates m ρ c) (w0 m ρ c)) 4#32
  | 3 => k0_pay31 (rank c) (w2 m ρ c) (w3 m ρ c) (k0_pay26 (tokens m ρ c)) (k0_pay27 (routes m ρ c)) (k0_pay28 (gates m ρ c))
      (k0_pay29 (rank c) (tokens m ρ c) (routes m ρ c) (gates m ρ c) (w0 m ρ c) (w1 m ρ c)) (k0_pay30 (rank c) (routes m ρ c) (gates m ρ c))
  | 4 => k0_pay37 (k0_pay36 (rank c) (w0 m ρ c) (w1 m ρ c) (w2 m ρ c) (w3 m ρ c) (k0_pay32 (tokens m ρ c)) (k0_pay33 (routes m ρ c))
      (k0_pay34 (gates m ρ c)) k0_pay35 (Scalar.muli (rank c) 4#32))
  | 5 => k0_pay43 (rank c) (w1 m ρ c) (w2 m ρ c) (w3 m ρ c) (k0_pay38 (tokens m ρ c)) (k0_pay39 (routes m ρ c)) (k0_pay40 (gates m ρ c))
      (k0_pay41 (rank c) (tokens m ρ c) (routes m ρ c) (gates m ρ c) (w0 m ρ c)) (k0_pay42 (rank c) (routes m ρ c) (gates m ρ c))
  | 6 => k0_pay48 (w3 m ρ c) (k0_pay44 (tokens m ρ c)) (k0_pay45 (routes m ρ c)) (k0_pay46 (gates m ρ c))
      (k0_pay47 (rank c) (tokens m ρ c) (routes m ρ c) (gates m ρ c) (w0 m ρ c) (w1 m ρ c) (w2 m ρ c)) (Scalar.muli (rank c) 4#32) 3#32
  | 7 => k0_pay54 (rank c) (w0 m ρ c) (w1 m ρ c) (w2 m ρ c) (w3 m ρ c) (k0_pay49 (tokens m ρ c)) (k0_pay50 (routes m ρ c)) (k0_pay51 (gates m ρ c))
      k0_pay52 (k0_pay53 (rank c) (tokens m ρ c) (routes m ρ c) (gates m ρ c))

/-- The sum a device stores for step 1, of its own partial `x` and its step-0 partner's `y`. -/
def pairSum : Fin 8 → SlotVal F → SlotVal F → SlotVal F
  | 0 => fun x y => k0_pay57 (k0_pay56 x) y
  | 1 => k0_pay58
  | 2 => k0_pay59
  | 3 => k0_pay60
  | 4 => k0_pay61
  | 5 => k0_pay62
  | 6 => k0_pay63
  | 7 => fun x y => k0_pay65 (k0_pay64 x y)

def pair (c : Dev nD) (b : Fin 8) : SlotVal F := pairSum b (part m ρ c b) (part m ρ (pt (t0 b) c) b)

/-- What transfer `t` of device `c` carries. -/
def V (t : Fin 16) (c : Dev nD) : SlotVal F := if t.val < 8 then part m ρ c (col t) else pair m ρ c (col t)

/-- The row block a device stores, of the shared output, its own pair sum `x` and its step-1 partner's `y`. -/
def finalOf : Fin 8 → FVec F S1024x512 .f32 → SlotVal F → SlotVal F → FVec F S128x512 .f32
  | 0 => fun s x y => k0_pay68 (k0_pay66 s) (k0_pay67 x) y
  | 1 => k0_pay69
  | 2 => k0_pay70
  | 3 => fun s x y => k0_pay72 (k0_pay71 s) x y
  | 4 => k0_pay73
  | 5 => k0_pay74
  | 6 => k0_pay75
  | 7 => fun s x y => k0_pay77 (k0_pay76 s x) y

/-- Row block `b` of the result on device `c`. -/
def outBlk (c : Dev nD) (b : Fin 8) : FVec F S128x512 .f32 :=
  finalOf b (shared m ρ c) (pair m ρ c b) (pair m ρ (pt (t1 b) c) b)

/-- The result on device `c`. -/
def outAt (c : Dev nD) : OutVal F := stacked (outBlk m ρ c)

end Cert.MoeRun

end
-- ==== Proof.Body.lean ====
/-
The kernel's body, run once at a symbolic device: from what a device starts with to the result's staging buffer filled,
every slot of the exchange buffer whole again, every semaphore at zero.
-/
module

public import proofs.«01_k».proof.Proof.Contents

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which partner each addressed device is -/

theorem dev1_eq (c : Dev nD) : (⟨k0_dev1 c, k0_dev1_lt c⟩ : Dev nD) = peer false c := by revert c; decide +kernel
theorem dev2_eq (c : Dev nD) : (⟨k0_dev2 c, k0_dev2_lt c⟩ : Dev nD) = peer true c := by revert c; decide +kernel
theorem dev3_eq (c : Dev nD) : (⟨k0_dev3 c, k0_dev3_lt c⟩ : Dev nD) = pt 0 c := by revert c; decide +kernel
theorem dev4_eq (c : Dev nD) : (⟨k0_dev4 c, k0_dev4_lt c⟩ : Dev nD) = pt 1 c := by revert c; decide +kernel
theorem dev5_eq (c : Dev nD) : (⟨k0_dev5 c, k0_dev5_lt c⟩ : Dev nD) = pt 2 c := by revert c; decide +kernel
theorem dev6_eq (c : Dev nD) : (⟨k0_dev6 c, k0_dev6_lt c⟩ : Dev nD) = pt 3 c := by revert c; decide +kernel
theorem dev7_eq (c : Dev nD) : (⟨k0_dev7 c, k0_dev7_lt c⟩ : Dev nD) = pt 4 c := by revert c; decide +kernel
theorem dev8_eq (c : Dev nD) : (⟨k0_dev8 c, k0_dev8_lt c⟩ : Dev nD) = pt 5 c := by revert c; decide +kernel
theorem dev9_eq (c : Dev nD) : (⟨k0_dev9 c, k0_dev9_lt c⟩ : Dev nD) = pt 6 c := by revert c; decide +kernel
theorem dev10_eq (c : Dev nD) : (⟨k0_dev10 c, k0_dev10_lt c⟩ : Dev nD) = pt 7 c := by revert c; decide +kernel
theorem dev11_eq (c : Dev nD) : (⟨k0_dev11 c, k0_dev11_lt c⟩ : Dev nD) = pt 8 c := by revert c; decide +kernel
theorem dev12_eq (c : Dev nD) : (⟨k0_dev12 c, k0_dev12_lt c⟩ : Dev nD) = pt 9 c := by revert c; decide +kernel
theorem dev13_eq (c : Dev nD) : (⟨k0_dev13 c, k0_dev13_lt c⟩ : Dev nD) = pt 10 c := by revert c; decide +kernel
theorem dev14_eq (c : Dev nD) : (⟨k0_dev14 c, k0_dev14_lt c⟩ : Dev nD) = pt 11 c := by revert c; decide +kernel
theorem dev15_eq (c : Dev nD) : (⟨k0_dev15 c, k0_dev15_lt c⟩ : Dev nD) = pt 12 c := by revert c; decide +kernel
theorem dev16_eq (c : Dev nD) : (⟨k0_dev16 c, k0_dev16_lt c⟩ : Dev nD) = pt 13 c := by revert c; decide +kernel
theorem dev17_eq (c : Dev nD) : (⟨k0_dev17 c, k0_dev17_lt c⟩ : Dev nD) = pt 14 c := by revert c; decide +kernel
theorem dev18_eq (c : Dev nD) : (⟨k0_dev18 c, k0_dev18_lt c⟩ : Dev nD) = pt 15 c := by revert c; decide +kernel

/-! ## What a device starts with -/

section Start
variable (W : Fin 16 → Dev nD → SlotVal F)

/-- Of transfer `t` before the barrier: the positions at its two cells and the tokens of the two duties it pays. -/
def Begun (c : Dev nD) (t : Fin 16) : sProp 𝕄 :=
  iprop(atPos ER (sendCell c t) 0 ∅ 0 ∗ atPos ER (recvCell c t) 0 ∅ 0
    ∗ dutyTok ER (sendCell c t) 0 false ∗ dutyTok ER (recvCell (pt t c) t) 0 false)

/-- The ghost state a device starts with, at cell names `K`. -/
def ghost (K : Dev nD × Option (Fin 32) → ℕ) (c : Dev nD) : sProp 𝕄 :=
  iprop(Ctx m W K ∗ atPos ER (barCell c) 0 ∅ 0
    ∗ dutyTok ER (barCell (peer false c)) 0 false ∗ dutyTok ER (barCell (peer true c)) 0 true
    ∗ bigSep Finset.univ fun t : Fin 16 => Begun (F := F) c t)

/-- The credits a device starts with: two units at its barrier, one landing at each receive cell. -/
def credits (c : Dev nD) : sProp 𝕄 :=
  iprop(cred (tallyAt (barCell c) () 2) ∗ bigSep Finset.univ fun t : Fin 16 => cred (tallyAt (recvCell c t) () N))

/-- The exchange buffer by slots: the landing slots and the source slots of the sixteen transfers. -/
def slots (c : Dev nD) : sProp 𝕄 :=
  iprop((bigSep Finset.univ fun t : Fin 16 => iprop(∃ f, slotPts (F := F) c (drow t) (col t) fullShare f))
    ∗ bigSep Finset.univ fun t : Fin 16 => iprop(∃ f, slotPts (F := F) c (srow t) (col t) fullShare f))

/-- The landing slots are those through each partner. -/
theorem landing_split (c : Dev nD) :
    (bigSep Finset.univ fun t : Fin 16 => iprop(∃ f, slotPts (F := F) c (drow t) (col t) fullShare f) : sProp 𝕄)
      = iprop(landSlots c true ∗ landSlots c false) := by
  rw [bigSep_fiberwise (Finset.univ : Finset (Fin 16)) via, show (Finset.univ : Finset (Fin 16)).image via = Finset.univ from by decide,
    bigSep_univ_eq_bigSepL [true, false] (by decide) (by decide), bigSepL_cons_cons, bigSepL_singleton]
  rfl

/-- The barrier: a unit to each partner, handing over the landing slots it will fill; then both partners' units. -/
theorem wp_barrier {α : Type} {Q : α → sProp 𝕄} (K : Dev nD × Option (Fin 32) → ℕ) (c n₁ n₂ : Dev nD) (h₁ : n₁ = peer false c) (h₂ : n₂ = peer true c)
    {v₁ v₂ v₃ : BitVec 32} (hv₁ : v₁ = 1#32) (hv₂ : v₂ = 1#32) (hv₃ : v₃ = 2#32)
    {k : PUnit → Prog (TpuEff nD τ sig (Elt F) Λ₀ .tc) α} :
    iprop(Ctx m W K ∗ owesAny c (O₀ c) ∗ atPos ER (barCell c) 0 ∅ 0
        ∗ dutyTok ER (barCell (peer false c)) 0 false ∗ dutyTok ER (barCell (peer true c)) 0 true
        ∗ cred (tallyAt (barCell c) () 2)
        ∗ bigSep Finset.univ fun t : Fin 16 => iprop(∃ f, slotPts (F := F) c (drow t) (col t) fullShare f))
      ⊢ iprop((owesAny c (Od c 0) ∗ semVal (barCell c) 0
            ∗ (bigSep Finset.univ fun t : Fin 16 => iprop(∃ f, slotPts (F := F) (pt t c) (drow t) (col t) fullShare f)) -∗ exec c (k ⟨⟩) Q)
          -∗ exec c ((semSignalWord n₁ barS v₁).bind fun _ => (semSignalWord n₂ barS v₂).bind fun _ => (semWaitWord barS v₃).bind k) Q) := by
  subst h₁; subst h₂; subst hv₁; subst hv₂; subst hv₃
  rw [landing_split]
  simp only [semSignalWord, semWaitWord, Prog.lift, Prog.bind_op, Prog.bind_ret, Prog.pure_eq_ret]
  unfold owesAny
  iintro ⟨#HC, ⟨%Wt, HO⟩, Hat, Ht₁, Ht₂, Hcr, Hl₂, Hl₁⟩ Hk
  iapply (Rounds.wp_signal 𝒱₀ ER (sched m W) (c : Thread nD τ) none (dst := (peer false c : Thread nD τ)) (κ := K (peer false c, none))
      (d := false) (by rw [duties_bar]; exact Finset.mem_univ _) ((amount_bar m W (peer false c) false).trans (by decide)) () (O₁ c) rfl)
    $$ [HO Ht₁ Hl₁]
  · isplitr; · iapply (ctx_inv m W K (peer false c, none)); iexact HC
    isplitl [HO]; · iexact HO
    isplitl [Ht₁]; · iexact Ht₁
    isplitl [Hl₁]; · rw [payload_bar, peer_peer]; iexact Hl₁
    iapply (ctx_reached m W K (peer false c, none)); iexact HC
  iintro HO
  unfold O₁
  iapply (Rounds.wp_signal 𝒱₀ ER (sched m W) (c : Thread nD τ) none (dst := (peer true c : Thread nD τ)) (κ := K (peer true c, none))
      (d := true) (by rw [duties_bar]; exact Finset.mem_univ _) ((amount_bar m W (peer true c) true).trans (by decide)) () (Od c 0) rfl)
    $$ [HO Ht₂ Hl₂]
  · isplitr; · iapply (ctx_inv m W K (peer true c, none)); iexact HC
    isplitl [HO]; · iexact HO
    isplitl [Ht₂]; · iexact Ht₂
    isplitl [Hl₂]; · rw [payload_bar, peer_peer]; iexact Hl₂
    iapply (ctx_reached m W K (peer true c, none)); iexact HC
  iintro HO
  iapply (Rounds.wp_wait_rest_token 𝒱₀ ER (sched m W) (c : Thread nD τ) none (κ := K (c, none))
      (wpE_semWait_eq 𝒱₀ (c : Thread nD τ) none Set.univ) (Set.mem_univ _) () (O := Od c 0) (W := Wt) (R := 0) (m := 0) (T := ∅)
      (by rw [expect_bar]; decide)) $$ [Hcr HO Hat]
  · isplitr; · iapply (ctx_inv m W K (c, none)); iexact HC
    isplitl [Hcr]; · iexact Hcr
    isplitl [HO]; · iexact HO
    isplitr; · iapply (mayWait_bar c); iapply (ctx_lev m W K); iexact HC
    iexact Hat
  iintro ⟨HO, Hat, -, Hpay⟩
  ihave Hd := (Entails.of_eq (rest_bar m W c)) $$ Hpay
  imod (Rounds.cell_close ER (sched m W) (Set.mem_univ (K (c, none))) (fun h => h) (R := 0 + 1) (duties_later m W (barCell c))) $$ [Hat] with Hz
  · isplitr; · iapply (ctx_inv m W K (c, none)); iexact HC
    iexact Hat
  iapply Hk
  isplitl [HO]; · iexists _; iexact HO
  isplitl [Hz]; · iexact Hz
  iexact Hd

theorem ready_of (c : Dev nD) (t : Fin 16) :
    iprop(Begun (F := F) c t ∗ cred (tallyAt (recvCell c t) () N)
        ∗ (∃ f, slotPts (F := F) (pt t c) (drow t) (col t) fullShare f) ∗ (∃ f, slotPts (F := F) c (srow t) (col t) fullShare f))
      ⊢ Ready (F := F) c t := by
  unfold Begun Ready
  iintro ⟨⟨H1, H2, H3, H4⟩, H5, H6, H7⟩
  isplitl [H1]; · iexact H1
  isplitl [H2]; · iexact H2
  isplitl [H3]; · iexact H3
  isplitl [H4]; · iexact H4
  isplitl [H5]; · iexact H5
  isplitl [H6]; · iexact H6
  iexact H7

/-- A conjunction over the sixteen transfers, written out. -/
theorem bigSep_transfers (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- After the barrier every transfer is ready. -/
theorem all_ready (c : Dev nD) :
    iprop((bigSep Finset.univ fun t : Fin 16 => Begun (F := F) c t) ∗ (bigSep Finset.univ fun t : Fin 16 => cred (tallyAt (recvCell c t) () N))
        ∗ (bigSep Finset.univ fun t : Fin 16 => iprop(∃ f, slotPts (F := F) (pt t c) (drow t) (col t) fullShare f))
        ∗ bigSep Finset.univ fun t : Fin 16 => iprop(∃ f, slotPts (F := F) c (srow t) (col t) fullShare f))
      ⊢ (iprop(Ready (F := F) c 0 ∗ Ready (F := F) c 1 ∗ Ready (F := F) c 2 ∗ Ready (F := F) c 3 ∗ Ready (F := F) c 4 ∗ Ready (F := F) c 5 ∗ Ready (F := F) c 6 ∗ Ready (F := F) c 7 ∗ Ready (F := F) c 8 ∗ Ready (F := F) c 9 ∗ Ready (F := F) c 10 ∗ Ready (F := F) c 11 ∗ Ready (F := F) c 12 ∗ Ready (F := F) c 13 ∗ Ready (F := F) c 14 ∗ Ready (F := F) c 15) : sProp 𝕄) := by
  rw [← bigSep_sep', ← bigSep_sep', ← bigSep_sep', ← bigSep_transfers]
  exact bigSep_mono fun t _ => ready_of c t

theorem all_over (c : Dev nD) :
    iprop(Over (F := F) c 0 ∗ Over (F := F) c 1 ∗ Over (F := F) c 2 ∗ Over (F := F) c 3 ∗ Over (F := F) c 4 ∗ Over (F := F) c 5 ∗ Over (F := F) c 6 ∗ Over (F := F) c 7 ∗ Over (F := F) c 8 ∗ Over (F := F) c 9 ∗ Over (F := F) c 10 ∗ Over (F := F) c 11 ∗ Over (F := F) c 12 ∗ Over (F := F) c 13 ∗ Over (F := F) c 14 ∗ Over (F := F) c 15)
      ⊢ (bigSep Finset.univ fun t : Fin 16 => Over (F := F) c t : sProp 𝕄) := by
  rw [← bigSep_transfers fun t => Over (F := F) c t]

end Start

/-! ## The body -/

theorem hz2 : (![0, 0] : Fin 2 → Nat) = fun _ => 0 := funext fun a => by fin_cases a <;> rfl

theorem read_x (f : (cc0_stg0_0 : Ref sig .tc).ty.Contents (Elt F)) :
    (Memref.whole cc0_stg0_0 : Memref sig .tc .vmem S1024x256 .f32).view.readAt (Elt F) (Rect.unit (s := S1024x256) ![0, 0] S1024x256.size inb_S1024x256_S1024x256_0_0).toLoadRect f = f :=
  Memref.readAt_unit_zero (Elt F) cc0_stg0_0 hz2 _ f
theorem read_rw (f : (cc0_stg1_0 : Ref sig .tc).ty.Contents (Elt F)) :
    (Memref.whole cc0_stg1_0 : Memref sig .tc .vmem S256x16 .f32).view.readAt (Elt F) (Rect.unit (s := S256x16) ![0, 0] S256x16.size inb_S256x16_S256x16_0_0).toLoadRect f = f :=
  Memref.readAt_unit_zero (Elt F) cc0_stg1_0 hz2 _ f
theorem read_id (f : (cc0_stg2_0 : Ref sig .tc).ty.Contents (Elt F)) :
    (Memref.whole cc0_stg2_0 : Memref sig .tc .vmem S1024x1 .i32).view.readAt (Elt F) (Rect.unit (s := S1024x1) ![0, 0] S1024x1.size inb_S1024x1_S1024x1_0_0).toLoadRect f = f :=
  Memref.readAt_unit_zero (Elt F) cc0_stg2_0 hz2 _ f
theorem read_sw (f : (cc0_stg4_0 : Ref sig .tc).ty.Contents (Elt F)) :
    (Memref.whole cc0_stg4_0 : Memref sig .tc .vmem S256x512 .f32).view.readAt (Elt F) (Rect.unit (s := S256x512) ![0, 0] S256x512.size inb_S256x512_S256x512_0_0).toLoadRect f = f :=
  Memref.readAt_unit_zero (Elt F) cc0_stg4_0 hz2 _ f

/-- A staging buffer holding `X`. -/
abbrev stg (c : Dev nD) (b : Ref sig .tc) (X : b.ty.Contents (Elt F)) : sProp 𝕄 :=
  iprop(((c : Thread nD τ).loc b) ↦{fullShare} X)

variable (K : Dev nD × Option (Fin 32) → ℕ)

def bodyPre (c : Dev nD) : sProp 𝕄 :=
  iprop(ghost m (V m ρ) K c ∗ credits (F := F) c ∗ slots (F := F) c ∗ owesAny c (O₀ c)
    ∗ stg c cc0_stg0_0 (xS m ρ c) ∗ stg c cc0_stg1_0 (rwS m ρ c) ∗ stg c cc0_stg2_0 (idS m ρ c) ∗ stg c cc0_stg3_0 (ewS m ρ c)
    ∗ stg c cc0_stg4_0 (swS m ρ c) ∗ ∃ f, stg c cc0_stg5_0 f)

def bodyPost (c : Dev nD) : sProp 𝕄 :=
  iprop((bigSep Finset.univ fun t : Fin 16 => Over (F := F) c t) ∗ semVal (barCell c) 0 ∗ owesAny c 0
    ∗ stg c cc0_stg0_0 (xS m ρ c) ∗ stg c cc0_stg1_0 (rwS m ρ c) ∗ stg c cc0_stg2_0 (idS m ρ c) ∗ stg c cc0_stg3_0 (ewS m ρ c)
    ∗ stg c cc0_stg4_0 (swS m ρ c) ∗ stg c cc0_stg5_0 (outAt m ρ c))

theorem out_start (O : Fin 8 → FVec F S128x512 .f32) (c : Dev nD) (f : (cc0_stg5_0 : Ref sig .tc).ty.Contents (Elt F)) :
    (stg c cc0_stg5_0 f : sProp 𝕄) ⊢ OutTo O c ((0 : Fin 8).val) := by
  unfold OutTo
  iintro H
  iexists f
  isplitr
  · ipureintro; exact fun b hb => absurd hb (Nat.not_lt_zero _)
  iexact H

theorem out_end (O : Fin 8 → FVec F S128x512 .f32) (c : Dev nD) :
    (OutTo O c ((7 : Fin 8).val + 1) : sProp 𝕄) ⊢ stg c cc0_stg5_0 (stacked O) := by
  unfold OutTo
  iintro ⟨%f, %hf, H⟩
  rw [← filled_all O hf]
  iexact H

theorem owes_none (c : Dev nD) : (owesAny (F := F) c (Od c 16) : sProp 𝕄) ⊢ owesAny c 0 := by rw [Od_end]

set_option maxHeartbeats 4000000 in
set_option maxRecDepth 8000 in
/-- The body from `bodyPre` to `bodyPost`. -/
theorem sound_body (c : Dev nD) (Kt : PUnit → sProp 𝕄) :
    iprop(bodyPre m ρ K c ∗ (bodyPost m ρ c -∗ Kt ⟨⟩))
      ⊢ exec c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  unfold bodyPre ghost credits slots
  iintro ⟨⟨⟨#HC, Hat, Ht₁, Ht₂, Hbeg⟩, ⟨HcB, Hcr⟩, ⟨Hland, Hsrc⟩, HO, Hx, Hrw, Hid, Hew, Hsw, ⟨%fo, Hout⟩⟩, Hk⟩
  simp only [cc0_body_eq_skeleton]; unfold cc0_body_skel
  simp only [k0_part34_eq_skeleton]; unfold k0_part34_skel
  simp only [k0_part1_eq_skeleton]; unfold k0_part1_skel
  simp only [Prog.lift, Prog.bind_op, Prog.bind_ret, Prog.bind_assoc, Prog.pure_eq_ret, wp_deviceId]
  iapply (wp_barrier m (V m ρ) K c _ _ (dev1_eq c) (dev2_eq c) rfl rfl rfl) $$ [$HC $HO $Hat $Ht₁ $Ht₂ $HcB $Hland]
  iintro ⟨HO, HzB, Hdst⟩
  ihave Hr := (all_ready (F := F) c) $$ [Hbeg Hcr Hdst Hsrc]
  · isplitl [Hbeg]; · iexact Hbeg
    isplitl [Hcr]; · iexact Hcr
    isplitl [Hdst] <;> iassumption
  icases Hr with ⟨R0, R1, R2, R3, R4, R5, R6, R7, R8, R9, R10, R11, R12, R13, R14, R15⟩
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hrw; iintro Hrw
  rw [read_rw]
  iapply (wp_load 𝒱₀ (c : Thread nD τ) none Set.univ (m := Memref.whole cc0_stg2_0) (Finset.subset_univ _)) $$ Hid; iintro Hid
  rw [read_id]
  simp only [k0_part2_eq_skeleton]; unfold k0_part2_skel
  simp only [Prog.lift, Prog.bind_op, Prog.bind_ret, Prog.pure_eq_ret]
  iapply (wp_load 𝒱₀ (c : Thread nD τ) none Set.univ (m := Memref.whole cc0_stg3_0) (Finset.subset_univ _)) $$ Hew; iintro Hew
  iapply (wp_load 𝒱₀ (c : Thread nD τ) none Set.univ (m := Memref.whole cc0_stg3_0) (Finset.subset_univ _)) $$ Hew; iintro Hew
  iapply (wp_load 𝒱₀ (c : Thread nD τ) none Set.univ (m := Memref.whole cc0_stg3_0) (Finset.subset_univ _)) $$ Hew; iintro Hew
  iapply (wp_load 𝒱₀ (c : Thread nD τ) none Set.univ (m := Memref.whole cc0_stg3_0) (Finset.subset_univ _)) $$ Hew; iintro Hew
  simp only [k0_part3_eq_skeleton]; unfold k0_part3_skel
  simp only [Prog.lift, Prog.bind_op, Prog.bind_ret, Prog.pure_eq_ret]
  simp only [k0_part4_eq_skeleton]; unfold k0_part4_skel
  simp only [Prog.lift, Prog.bind_op, Prog.bind_ret, Prog.pure_eq_ret]
  iapply (wp_first m (V m ρ) K c _ 0 (dev3_eq c) rfl rfl rfl rfl rfl rfl) $$ [$HC $HO $R0]
  iintro ⟨HO, R0⟩
  simp only [k0_part5_eq_skeleton]; unfold k0_part5_skel
  simp only [Prog.lift, Prog.bind_op, Prog.bind_ret, Prog.pure_eq_ret]
  iapply (wp_first m (V m ρ) K c _ 1 (dev4_eq c) rfl rfl rfl rfl rfl rfl) $$ [$HC $HO $R1]
  iintro ⟨HO, R1⟩
  simp only [k0_part6_eq_skeleton]; unfold k0_part6_skel
  simp only [Prog.lift, Prog.bind_op, Prog.bind_ret, Prog.pure_eq_ret]
  simp only [k0_part7_eq_skeleton]; unfold k0_part7_skel
  simp only [Prog.lift, Prog.bind_op, Prog.bind_ret, Prog.pure_eq_ret]
  iapply (wp_first m (V m ρ) K c _ 2 (dev5_eq c) rfl rfl rfl rfl rfl rfl) $$ [$HC $HO $R2]
  iintro ⟨HO, R2⟩
  simp only [k0_part8_eq_skeleton]; unfold k0_part8_skel
  simp only [Prog.lift, Prog.bind_op, Prog.bind_ret, Prog.pure_eq_ret]
  iapply (wp_first m (V m ρ) K c _ 3 (dev6_eq c) rfl rfl rfl rfl rfl rfl) $$ [$HC $HO $R3]
  iintro ⟨HO, R3⟩
  simp only [k0_part9_eq_skeleton]; unfold k0_part9_skel
  simp only [Prog.lift, Prog.bind_op, Prog.bind_ret, Prog.pure_eq_ret]
  simp only [k0_part10_eq_skeleton]; unfold k0_part10_skel
  simp only [Prog.lift, Prog.bind_op, Prog.bind_ret, Prog.pure_eq_ret]
  iapply (wp_first m (V m ρ) K c _ 4 (dev7_eq c) rfl rfl rfl rfl rfl rfl) $$ [$HC $HO $R4]
  iintro ⟨HO, R4⟩
  simp only [k0_part11_eq_skeleton]; unfold k0_part11_skel
  simp only [Prog.lift, Prog.bind_op, Prog.bind_ret, Prog.pure_eq_ret]
  simp only [k0_part12_eq_skeleton]; unfold k0_part12_skel
  simp only [Prog.lift, Prog.bind_op, Prog.bind_ret, Prog.pure_eq_ret]
  iapply (wp_first m (V m ρ) K c _ 5 (dev8_eq c) rfl rfl rfl rfl rfl rfl) $$ [$HC $HO $R5]
  iintro ⟨HO, R5⟩
  simp only [k0_part13_eq_skeleton]; unfold k0_part13_skel
  simp only [Prog.lift, Prog.bind_op, Prog.bind_ret, Prog.pure_eq_ret]
  iapply (wp_first m (V m ρ) K c _ 6 (dev9_eq c) rfl rfl rfl rfl rfl rfl) $$ [$HC $HO $R6]
  iintro ⟨HO, R6⟩
  simp only [k0_part14_eq_skeleton]; unfold k0_part14_skel
  simp only [Prog.lift, Prog.bind_op, Prog.bind_ret, Prog.pure_eq_ret]
  simp only [k0_part15_eq_skeleton]; unfold k0_part15_skel
  simp only [Prog.lift, Prog.bind_op, Prog.bind_ret, Prog.pure_eq_ret]
  iapply (wp_first m (V m ρ) K c _ 7 (dev10_eq c) rfl rfl rfl rfl rfl rfl) $$ [$HC $HO $R7]
  iintro ⟨HO, R7⟩
  iapply (wp_load 𝒱₀ (c : Thread nD τ) none Set.univ (m := Memref.whole cc0_stg4_0) (Finset.subset_univ _)) $$ Hsw; iintro Hsw
  rw [read_sw]
  simp only [k0_part16_eq_skeleton]; unfold k0_part16_skel
  simp only [Prog.lift, Prog.bind_op, Prog.bind_ret, Prog.pure_eq_ret]
  iapply (wp_exchange m (V m ρ) K c _ 0 8 (by decide) (by decide) (dev11_eq c) (wdst := slotM (drow 0) (col 0)) (slot_credit _ _)
    rfl rfl rfl rfl rfl rfl rfl rfl rfl) $$ [$HC $HO $R0 $R8]
  iintro ⟨HO, R0, R8⟩
  simp only [k0_part17_eq_skeleton]; unfold k0_part17_skel
  simp only [Prog.lift, Prog.bind_op, Prog.bind_ret, Prog.pure_eq_ret]
  iapply (wp_exchange m (V m ρ) K c _ 1 9 (by decide) (by decide) (dev12_eq c) (wdst := slotM (drow 1) (col 1)) (slot_credit _ _)
    rfl rfl rfl rfl rfl rfl rfl rfl rfl) $$ [$HC $HO $R1 $R9]
  iintro ⟨HO, R1, R9⟩
  simp only [k0_part18_eq_skeleton]; unfold k0_part18_skel
  simp only [Prog.lift, Prog.bind_op, Prog.bind_ret, Prog.pure_eq_ret]
  iapply (wp_exchange m (V m ρ) K c _ 2 10 (by decide) (by decide) (dev13_eq c) (wdst := slotM (drow 2) (col 2)) (slot_credit _ _)
    rfl rfl rfl rfl rfl rfl rfl rfl rfl) $$ [$HC $HO $R2 $R10]
  iintro ⟨HO, R2, R10⟩
  simp only [k0_part19_eq_skeleton]; unfold k0_part19_skel
  simp only [Prog.lift, Prog.bind_op, Prog.bind_ret, Prog.pure_eq_ret]
  iapply (wp_exchange m (V m ρ) K c _ 3 11 (by decide) (by decide) (dev14_eq c) (wdst := slotM (drow 3) (col 3)) (slot_credit _ _)
    rfl rfl rfl rfl rfl rfl rfl rfl rfl) $$ [$HC $HO $R3 $R11]
  iintro ⟨HO, R3, R11⟩
  simp only [k0_part20_eq_skeleton]; unfold k0_part20_skel
  simp only [Prog.lift, Prog.bind_op, Prog.bind_ret, Prog.pure_eq_ret]
  simp only [k0_part21_eq_skeleton]; unfold k0_part21_skel
  simp only [Prog.lift, Prog.bind_op, Prog.bind_ret, Prog.pure_eq_ret]
  iapply (wp_exchange m (V m ρ) K c _ 4 12 (by decide) (by decide) (dev15_eq c) (wdst := slotM (drow 4) (col 4)) (slot_credit _ _)
    rfl rfl rfl rfl rfl rfl rfl rfl rfl) $$ [$HC $HO $R4 $R12]
  iintro ⟨HO, R4, R12⟩
  simp only [k0_part22_eq_skeleton]; unfold k0_part22_skel
  simp only [Prog.lift, Prog.bind_op, Prog.bind_ret, Prog.pure_eq_ret]
  iapply (wp_exchange m (V m ρ) K c _ 5 13 (by decide) (by decide) (dev16_eq c) (wdst := slotM (drow 5) (col 5)) (slot_credit _ _)
    rfl rfl rfl rfl rfl rfl rfl rfl rfl) $$ [$HC $HO $R5 $R13]
  iintro ⟨HO, R5, R13⟩
  simp only [k0_part23_eq_skeleton]; unfold k0_part23_skel
  simp only [Prog.lift, Prog.bind_op, Prog.bind_ret, Prog.pure_eq_ret]
  iapply (wp_exchange m (V m ρ) K c _ 6 14 (by decide) (by decide) (dev17_eq c) (wdst := slotM (drow 6) (col 6)) (slot_credit _ _)
    rfl rfl rfl rfl rfl rfl rfl rfl rfl) $$ [$HC $HO $R6 $R14]
  iintro ⟨HO, R6, R14⟩
  simp only [k0_part24_eq_skeleton]; unfold k0_part24_skel
  simp only [Prog.lift, Prog.bind_op, Prog.bind_ret, Prog.pure_eq_ret]
  iapply (wp_exchange m (V m ρ) K c _ 7 15 (by decide) (by decide) (dev18_eq c) (wdst := slotM (drow 7) (col 7)) (slot_credit _ _)
    rfl rfl rfl rfl rfl rfl rfl rfl rfl) $$ [$HC $HO $R7 $R15]
  iintro ⟨HO, R7, R15⟩
  ihave Hout := (out_start (F := F) (outBlk m ρ c) c fo) $$ Hout
  simp only [k0_part25_eq_skeleton]; unfold k0_part25_skel
  simp only [Prog.lift, Prog.bind_op, Prog.bind_ret, Prog.pure_eq_ret]
  iapply (wp_final m (V m ρ) K (outBlk m ρ c) c 8 0 (wdst := slotM (drow 8) (col 8)) (slot_credit _ _) rfl rfl rfl rfl rfl) $$ [$HC $HO $R8 $Hout]
  iintro ⟨HO, R8, Hout⟩
  iapply (wp_final m (V m ρ) K (outBlk m ρ c) c 9 1 (wdst := slotM (drow 9) (col 9)) (slot_credit _ _) rfl rfl rfl rfl rfl) $$ [$HC $HO $R9 $Hout]
  iintro ⟨HO, R9, Hout⟩
  simp only [k0_part26_eq_skeleton]; unfold k0_part26_skel
  simp only [Prog.lift, Prog.bind_op, Prog.bind_ret, Prog.pure_eq_ret]
  iapply (wp_final m (V m ρ) K (outBlk m ρ c) c 10 2 (wdst := slotM (drow 10) (col 10)) (slot_credit _ _) rfl rfl rfl rfl rfl) $$ [$HC $HO $R10 $Hout]
  iintro ⟨HO, R10, Hout⟩
  simp only [k0_part27_eq_skeleton]; unfold k0_part27_skel
  simp only [Prog.lift, Prog.bind_op, Prog.bind_ret, Prog.pure_eq_ret]
  iapply (wp_final m (V m ρ) K (outBlk m ρ c) c 11 3 (wdst := slotM (drow 11) (col 11)) (slot_credit _ _) rfl rfl rfl rfl rfl) $$ [$HC $HO $R11 $Hout]
  iintro ⟨HO, R11, Hout⟩
  simp only [k0_part28_eq_skeleton]; unfold k0_part28_skel
  simp only [Prog.lift, Prog.bind_op, Prog.bind_ret, Prog.pure_eq_ret]
  iapply (wp_final m (V m ρ) K (outBlk m ρ c) c 12 4 (wdst := slotM (drow 12) (col 12)) (slot_credit _ _) rfl rfl rfl rfl rfl) $$ [$HC $HO $R12 $Hout]
  iintro ⟨HO, R12, Hout⟩
  iapply (wp_final m (V m ρ) K (outBlk m ρ c) c 13 5 (wdst := slotM (drow 13) (col 13)) (slot_credit _ _) rfl rfl rfl rfl rfl) $$ [$HC $HO $R13 $Hout]
  iintro ⟨HO, R13, Hout⟩
  simp only [k0_part29_eq_skeleton]; unfold k0_part29_skel
  simp only [Prog.lift, Prog.bind_op, Prog.bind_ret, Prog.pure_eq_ret]
  iapply (wp_final m (V m ρ) K (outBlk m ρ c) c 14 6 (wdst := slotM (drow 14) (col 14)) (slot_credit _ _) rfl rfl rfl rfl rfl) $$ [$HC $HO $R14 $Hout]
  iintro ⟨HO, R14, Hout⟩
  simp only [k0_part30_eq_skeleton]; unfold k0_part30_skel
  simp only [Prog.lift, Prog.bind_op, Prog.bind_ret, Prog.pure_eq_ret]
  iapply (wp_final m (V m ρ) K (outBlk m ρ c) c 15 7 (wdst := slotM (drow 15) (col 15)) (slot_credit _ _) rfl rfl rfl rfl rfl) $$ [$HC $HO $R15 $Hout]
  iintro ⟨HO, R15, Hout⟩
  ihave HO := (owes_none (F := F) c) $$ HO
  iapply (wp_back m (V m ρ) K c 0 (dst := slotM (srow 0) (col 0)) (slot_credit _ _) rfl) $$ [$HC $HO $R0]
  iintro ⟨HO, R0⟩
  iapply (wp_back m (V m ρ) K c 1 (dst := slotM (srow 1) (col 1)) (slot_credit _ _) rfl) $$ [$HC $HO $R1]
  iintro ⟨HO, R1⟩
  simp only [k0_part31_eq_skeleton]; unfold k0_part31_skel
  simp only [Prog.lift, Prog.bind_op, Prog.bind_ret, Prog.pure_eq_ret]
  iapply (wp_back m (V m ρ) K c 2 (dst := slotM (srow 2) (col 2)) (slot_credit _ _) rfl) $$ [$HC $HO $R2]
  iintro ⟨HO, R2⟩
  iapply (wp_back m (V m ρ) K c 3 (dst := slotM (srow 3) (col 3)) (slot_credit _ _) rfl) $$ [$HC $HO $R3]
  iintro ⟨HO, R3⟩
  iapply (wp_back m (V m ρ) K c 4 (dst := slotM (srow 4) (col 4)) (slot_credit _ _) rfl) $$ [$HC $HO $R4]
  iintro ⟨HO, R4⟩
  iapply (wp_back m (V m ρ) K c 5 (dst := slotM (srow 5) (col 5)) (slot_credit _ _) rfl) $$ [$HC $HO $R5]
  iintro ⟨HO, R5⟩
  simp only [k0_part32_eq_skeleton]; unfold k0_part32_skel
  simp only [Prog.lift, Prog.bind_op, Prog.bind_ret, Prog.pure_eq_ret]
  iapply (wp_back m (V m ρ) K c 6 (dst := slotM (srow 6) (col 6)) (slot_credit _ _) rfl) $$ [$HC $HO $R6]
  iintro ⟨HO, R6⟩
  iapply (wp_back m (V m ρ) K c 7 (dst := slotM (srow 7) (col 7)) (slot_credit _ _) rfl) $$ [$HC $HO $R7]
  iintro ⟨HO, R7⟩
  iapply (wp_back m (V m ρ) K c 8 (dst := slotM (srow 8) (col 8)) (slot_credit _ _) rfl) $$ [$HC $HO $R8]
  iintro ⟨HO, R8⟩
  simp only [k0_part33_eq_skeleton]; unfold k0_part33_skel
  simp only [Prog.lift, Prog.bind_op, Prog.bind_ret, Prog.pure_eq_ret]
  iapply (wp_back m (V m ρ) K c 9 (dst := slotM (srow 9) (col 9)) (slot_credit _ _) rfl) $$ [$HC $HO $R9]
  iintro ⟨HO, R9⟩
  iapply (wp_back m (V m ρ) K c 10 (dst := slotM (srow 10) (col 10)) (slot_credit _ _) rfl) $$ [$HC $HO $R10]
  iintro ⟨HO, R10⟩
  iapply (wp_back m (V m ρ) K c 11 (dst := slotM (srow 11) (col 11)) (slot_credit _ _) rfl) $$ [$HC $HO $R11]
  iintro ⟨HO, R11⟩
  iapply (wp_back m (V m ρ) K c 12 (dst := slotM (srow 12) (col 12)) (slot_credit _ _) rfl) $$ [$HC $HO $R12]
  iintro ⟨HO, R12⟩
  iapply (wp_back m (V m ρ) K c 13 (dst := slotM (srow 13) (col 13)) (slot_credit _ _) rfl) $$ [$HC $HO $R13]
  iintro ⟨HO, R13⟩
  iapply (wp_back m (V m ρ) K c 14 (dst := slotM (srow 14) (col 14)) (slot_credit _ _) rfl) $$ [$HC $HO $R14]
  iintro ⟨HO, R14⟩
  iapply (wp_back m (V m ρ) K c 15 (dst := slotM (srow 15) (col 15)) (slot_credit _ _) rfl) $$ [$HC $HO $R15]
  iintro ⟨HO, R15⟩
  ihave Hout := (out_end (F := F) (outBlk m ρ c) c) $$ Hout
  ihave HR := (all_over (F := F) c) $$ [$R0 $R1 $R2 $R3 $R4 $R5 $R6 $R7 $R8 $R9 $R10 $R11 $R12 $R13 $R14 $R15]
  unfold exec; rw [wp_ret]; imodintro
  iapply Hk
  unfold bodyPost outAt
  iframe

end Cert.MoeRun

end
-- ==== Proof.Launch.lean ====
/-
The launch: the exchange buffer cut into its slots, the tokens and credits dealt to the devices, and the run of the whole
program for any float values.
-/
module

public import proofs.«01_k».proof.Proof.Body
public import Idealize.ShloMosaic.Lib.Ring
public import Idealize.ShloMosaic.Lib.Pipeline.CollectiveSegs

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The exchange buffer is its slots -/

/-- The row and block of the slot on either side of a transfer: its landing slot, its source slot. -/
def slotRow : Fin 16 ⊕ Fin 16 → Fin 4
  | .inl t => drow t
  | .inr t => srow t
def slotCol : Fin 16 ⊕ Fin 16 → Fin 8
  | .inl t => col t
  | .inr t => col t

theorem slot_mem (r : Fin 4) (b : Fin 8) (i : S4x8x128x512.Idx) :
    i ∈ (slotM r b).view.set ↔ (i 0).val = r.val ∧ (i 1).val = b.val := by
  rw [slot_set, View.set_slice_whole, Rect.mem_set_unit]
  constructor
  · intro h
    have h0 : r.val ≤ (i 0).val ∧ (i 0).val < r.val + 1 := h 0
    have h1 : b.val ≤ (i 1).val ∧ (i 1).val < b.val + 1 := h 1
    omega
  · rintro ⟨h0, h1⟩ a
    fin_cases a
    · show r.val ≤ (i 0).val ∧ (i 0).val < r.val + 1; omega
    · show b.val ≤ (i 1).val ∧ (i 1).val < b.val + 1; omega
    · exact ⟨Nat.zero_le _, by have := (i 2).isLt; exact (Nat.zero_add _).symm ▸ this⟩
    · exact ⟨Nat.zero_le _, by have := (i 3).isLt; exact (Nat.zero_add _).symm ▸ this⟩

/-- The elements of a slot, as elements of the exchange buffer of `c`. -/
def slotSet (c : Dev nD) (u : Fin 16 ⊕ Fin 16) : Finset (Idx ((c : Thread nD τ).loc cc0_scratch0)) :=
  (slotM (slotRow u) (slotCol u)).view.set

theorem slot_of_ne : ∀ u u' : Fin 16 ⊕ Fin 16, slotRow u = slotRow u' → slotCol u = slotCol u' → u = u' := by decide +kernel

theorem slot_all : ∀ (r : Fin 4) (b : Fin 8), ∃ u, slotRow u = r ∧ slotCol u = b := by decide +kernel

theorem slots_disjoint (c : Dev nD) (u u' : Fin 16 ⊕ Fin 16) (h : u ≠ u') : Disjoint (slotSet c u) (slotSet c u') := by
  rw [Finset.disjoint_left]
  intro i hi hi'
  have h1 := (slot_mem _ _ i).mp hi
  have h2 := (slot_mem _ _ i).mp hi'
  exact h (slot_of_ne u u' (Fin.ext (h1.1.symm.trans h2.1)) (Fin.ext (h1.2.symm.trans h2.2)))

theorem slots_cover (c : Dev nD) : Finset.univ.biUnion (slotSet c) = Finset.univ := by
  ext i
  simp only [Finset.mem_biUnion, Finset.mem_univ, true_and, iff_true]
  let i' : S4x8x128x512.Idx := i
  obtain ⟨u, hr, hb⟩ := slot_all ⟨(i' 0).val, (i' 0).isLt⟩ ⟨(i' 1).val, (i' 1).isLt⟩
  exact ⟨u, (slot_mem _ _ i').mpr ⟨by rw [hr], by rw [hb]⟩⟩

theorem slot_held (c : Dev nD) (r : Fin 4) (b : Fin 8) (f : Buf (Elt F) ((c : Thread nD τ).loc cc0_scratch0)) :
    (slotPts c r b fullShare f : sProp 𝕄) ⊢ iprop(∃ f, slotPts (F := F) c r b fullShare f) := by iintro H; iexists f; iexact H

/-- The exchange buffer held whole, cut into its slots; -/
theorem slots_split (c : Dev nD) (f : Buf (Elt F) ((c : Thread nD τ).loc cc0_scratch0)) :
    ((((c : Thread nD τ).loc cc0_scratch0) ↦{fullShare} f) : sProp 𝕄) ⊢ slots c := by
  rw [Ring.pointsTo_blocks (slotSet c) (slots_disjoint c) (slots_cover c), bigSep_univ_sum]
  unfold slots
  exact BI.sep_mono (bigSep_mono fun t _ => slot_held c (drow t) (col t) f) (bigSep_mono fun t _ => slot_held c (srow t) (col t) f)

/-- and put together again. -/
theorem slots_join (c : Dev nD) (f₀ : Buf (Elt F) ((c : Thread nD τ).loc cc0_scratch0)) :
    (slots (F := F) c : sProp 𝕄) ⊢ iprop(∃ f : Buf (Elt F) ((c : Thread nD τ).loc cc0_scratch0), ((c : Thread nD τ).loc cc0_scratch0) ↦{fullShare} f) := by
  refine BIBase.Entails.trans ?_ (Ring.pointsTo_blocks_join_exists (slotSet c) (slots_disjoint c) (slots_cover c) f₀)
  rw [bigSep_univ_sum]; exact BIClass.entails_refl _

/-! ## The cells by kind -/

/-- The barrier, the sixteen send semaphores and the sixteen receive semaphores. -/
def kind : Unit ⊕ Fin 16 ⊕ Fin 16 → Option (Fin 32)
  | .inl _ => none
  | .inr (.inl t) => some (sendIx t)
  | .inr (.inr t) => some (recvIx t)

theorem kind_bijective : Function.Bijective kind := by decide +kernel

/-- A conjunction over the cells is one over each kind. -/
theorem bigSep_cells (Φ : Option (Fin 32) → sProp 𝕄) : bigSep Finset.univ Φ
    = iprop(Φ none ∗ (bigSep Finset.univ fun t => Φ (some (sendIx t))) ∗ bigSep Finset.univ fun t => Φ (some (recvIx t))) := by
  rw [bigSep_univ_equiv (Equiv.ofBijective kind kind_bijective), bigSep_univ_sum, bigSep_univ_sum, Finset.univ_unique, bigSep_singleton]
  rfl

def sideOf : Fin 16 ⊕ Fin 16 → Fin 32
  | .inl t => sendIx t
  | .inr t => recvIx t
theorem sideOf_bijective : Function.Bijective sideOf := by decide +kernel

theorem bigSep_sides (Φ : Fin 32 → sProp 𝕄) : bigSep Finset.univ Φ
    = iprop((bigSep Finset.univ fun t => Φ (sendIx t)) ∗ bigSep Finset.univ fun t => Φ (recvIx t)) := by
  rw [bigSep_univ_equiv (Equiv.ofBijective sideOf sideOf_bijective), bigSep_univ_sum]
  rfl

theorem kcell_injective : Function.Injective (kcell : Dev nD × Option (Fin 32) → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    rcases k with _ | i <;> rcases k' with _ | i'
    · rfl
    · exact absurd h2 (by unfold csem; simp)
    · exact absurd h2 (by unfold csem; simp)
    · have h3 : 6 + i.val = 6 + i'.val := congrArg Fin.val (SemLoc.dma.inj h2)
      exact congrArg some (Fin.ext (by omega))
  subst this; rfl
def cells : Finset (GSem nD τ sig) := Finset.univ.map ⟨kcell, kcell_injective⟩

/-- The duty tokens of a device's own cells: two at its barrier, one at each of the others. -/
abbrev tokOf (cj : Dev nD × (Bool ⊕ Fin 16 ⊕ Fin 16)) : GSem nD τ sig × ℕ × Bool := match cj.2 with
  | .inl d => (barCell cj.1, 0, d)
  | .inr (.inl t) => (sendCell cj.1 t, 0, false)
  | .inr (.inr t) => (recvCell cj.1 t, 0, false)

/-- What tells the tokens of a device apart. -/
def tokKey : Bool ⊕ Fin 16 ⊕ Fin 16 → ℕ
  | .inl d => if d then 1 else 0
  | .inr (.inl t) => 2 + t.val
  | .inr (.inr t) => 18 + t.val
theorem tokKey_injective : Function.Injective tokKey := by decide +kernel
def keyOf (x : GSem nD τ sig × ℕ × Bool) : ℕ := match x.1.2 with
  | .reg _ => if x.2.2 then 1 else 0
  | .dma q => q.val - 4
theorem keyOf_tokOf (c : Dev nD) (j : Bool ⊕ Fin 16 ⊕ Fin 16) : keyOf (tokOf (c, j)) = tokKey j := by
  rcases j with d | t | t
  · rfl
  · show 6 + t.val - 4 = 2 + t.val; omega
  · show 6 + (16 + t.val) - 4 = 18 + t.val; omega
theorem tokOf_dev (c : Dev nD) (j : Bool ⊕ Fin 16 ⊕ Fin 16) : (tokOf (c, j)).1.1.1 = c := by rcases j with d | t | t <;> rfl
theorem tokOf_injective : Function.Injective tokOf := by
  rintro ⟨c, j⟩ ⟨c', j'⟩ h
  have h1 : c = c' := by rw [← tokOf_dev c j, h, tokOf_dev]
  have h2 : j = j' := tokKey_injective (by rw [← keyOf_tokOf c j, h, keyOf_tokOf])
  rw [h1, h2]
def tokens₀ : Finset (GSem nD τ sig × ℕ × Bool) := Finset.univ.map ⟨tokOf, tokOf_injective⟩

/-- What the launch allocates: the staging's own rounds, the protocol's. -/
def u₀ : UU := (initOf (Pipeline.cells cfgs cellOf_inj) (Pipeline.launchToks cfgs cellOf_inj), initOf cells tokens₀)

/-- The duty tokens of `c`'s own cells. -/
def toks (c : Dev nD) : sProp 𝕄 :=
  iprop((dutyTok ER (barCell c) 0 true ∗ dutyTok ER (barCell c) 0 false)
    ∗ (bigSep Finset.univ fun t : Fin 16 => dutyTok ER (sendCell c t) 0 false) ∗ bigSep Finset.univ fun t : Fin 16 => dutyTok ER (recvCell c t) 0 false)

/-- What the launch deals device `c`. -/
def G (c : Dev nD) : sProp 𝕄 :=
  iprop((bigSep Finset.univ fun k : Option (Fin 32) => roundState ER (sched m (V m ρ)) (kcell (c, k)) 0)
    ∗ (bigSep Finset.univ fun k : Option (Fin 32) => iprop(atPos ER (kcell (c, k)) 0 ∅ 0 ∗ reached ER (kcell (c, k)) 0)) ∗ toks c)

theorem fund : BI.own (ER (initOf cells tokens₀)) ⊢ (|==> bigSep Finset.univ (G m ρ) : sProp 𝕄) := by
  have hX (Φ : GSem nD τ sig → sProp 𝕄) : bigSep cells Φ = bigSep Finset.univ fun c : Dev nD => bigSep Finset.univ fun k : Option (Fin 32) => Φ (kcell (c, k)) := by
    unfold cells; rw [bigSep_map, bigSep_univ_prod]; rfl
  have hT : bigSep tokens₀ (fun x => (dutyTok ER x.1 x.2.1 x.2.2 : sProp 𝕄)) = bigSep Finset.univ fun c : Dev nD => toks c := by
    unfold tokens₀; rw [bigSep_map, bigSep_univ_prod]
    exact bigSep_congr fun c _ => by
      unfold toks
      rw [bigSep_univ_sum, bigSep_univ_sum, bigSep_univ_eq_bigSepL [true, false] (by decide) (by decide), bigSepL_cons_cons, bigSepL_singleton]
      rfl
  iintro HX
  imod (Rounds.fund ER (sched m (V m ρ)) cells tokens₀) $$ HX with ⟨Hst, Hr, Hat, Htok⟩
  imodintro
  ihave Hst' := (Entails.of_eq (hX fun g => roundState ER (sched m (V m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's one unscoped semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores are the sends' and the receives'. -/
theorem ownSems0_eq (c : Dev nD) : (Pipeline.ownSems0 (Ix := Unit) (Name := ℕ) (U := UU) (Lvl := ℕ) (Val := Elt F) (τ := τ) osem c : sProp 𝕄)
    = iprop((bigSep Finset.univ fun t : Fin 16 => semVal (sendCell c t) 0) ∗ bigSep Finset.univ fun t : Fin 16 => semVal (recvCell c t) 0) := by
  unfold Pipeline.ownSems0; rw [bigSep_sides]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 32) => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m (V m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 32) => semVal (kcell (c, k)) 0) ∗ bigSep Finset.univ fun k : Option (Fin 32) => roundState ER (sched m (V m ρ)) (kcell (c, k)) 0)
      ⊢ (|={Set.univ}=> bigSep Finset.univ fun k => iprop(∃ κ : ℕ, cellInv ER (sched m (V m ρ)) κ (kcell (c, k))) : sProp 𝕄) from by
        rw [← bigSep_sep']
        exact (bigSep_mono fun k _ => (Rounds.body_intro ER (sched m (V m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The facts every device shares. -/
def records (K : Dev nD × Option (Fin 32) → ℕ) : sProp 𝕄 :=
  iprop((bigSep Finset.univ fun ck : Dev nD × Option (Fin 32) => cellInv ER (sched m (V m ρ)) (K ck) (kcell ck))
    ∗ bigSep Finset.univ fun ck : Dev nD × Option (Fin 32) => reached ER (kcell ck) 0)

instance records_persistent (K : Dev nD × Option (Fin 32) → ℕ) : BI.Persistent (records m ρ K) := by unfold records; infer_instance

/-- The tokens of the duties `c` pays. -/
def payToks (c : Dev nD) : sProp 𝕄 :=
  iprop((dutyTok ER (barCell (peer true c)) 0 true ∗ dutyTok ER (barCell (peer false c)) 0 false)
    ∗ (bigSep Finset.univ fun t : Fin 16 => dutyTok ER (sendCell c t) 0 false) ∗ bigSep Finset.univ fun t : Fin 16 => dutyTok ER (recvCell (pt t c) t) 0 false)

/-- What is `c`'s alone: its positions, and those tokens. -/
def linear (c : Dev nD) : sProp 𝕄 :=
  iprop((bigSep Finset.univ fun k : Option (Fin 32) => atPos ER (kcell (c, k)) 0 ∅ 0) ∗ payToks c)

/-- What the global step leaves each device. -/
def G' (c : Dev nD) : sProp 𝕄 := iprop(∃ K, records m ρ K ∗ linear c)

/-- The receive tokens of all devices, each at the partner that lands there. -/
theorem recv_around : (bigSep Finset.univ fun c : Dev nD => bigSep Finset.univ fun t : Fin 16 => (dutyTok ER (recvCell c t) 0 false : sProp 𝕄))
    = bigSep Finset.univ fun c : Dev nD => bigSep Finset.univ fun t : Fin 16 => dutyTok ER (recvCell (pt t c) t) 0 false := by
  rw [← bigSep_univ_prod (fun ct : Dev nD × Fin 16 => (dutyTok ER (recvCell ct.1 ct.2) 0 false : sProp 𝕄)),
    ← bigSep_univ_prod (fun ct : Dev nD × Fin 16 => (dutyTok ER (recvCell (pt ct.2 ct.1) ct.2) 0 false : sProp 𝕄)),
    bigSep_univ_equiv (⟨fun ct => (pt ct.2 ct.1, ct.2), fun ct => (pt ct.2 ct.1, ct.2), fun ct => Prod.ext (pt_pt _ _) rfl, fun ct => Prod.ext (pt_pt _ _) rfl⟩ : Dev nD × Fin 16 ≃ Dev nD × Fin 16)]
  rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_around,
    bigSep_univ_equiv (peerEquiv true) (fun c : Dev nD => (dutyTok ER (barCell c) 0 true : sProp 𝕄)),
    bigSep_univ_equiv (peerEquiv false) (fun c : Dev nD => (dutyTok ER (barCell c) 0 false : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (K : Dev nD × Option (Fin 32) → ℕ) (c : Dev nD) : iprop(records m ρ K ∗ linear c) ⊢ G' m ρ c := by
  unfold G'; iintro H; iexists K; iexact H

theorem regroup :
    (bigSep Finset.univ fun c : Dev nD => iprop((bigSep Finset.univ fun k => iprop(∃ κ : ℕ, cellInv ER (sched m (V m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 32) => iprop(∃ κ : ℕ, cellInv ER (sched m (V m ρ)) κ (kcell ck))),
    bigSep_congr (s := Finset.univ) (fun (c : Dev nD) _ => bigSep_sep' Finset.univ (fun k : Option (Fin 32) => (atPos ER (kcell (c, k)) 0 ∅ 0 : sProp 𝕄)) (fun k => reached ER (kcell (c, k)) 0)),
    bigSep_sep', ← bigSep_univ_prod (fun ck : Dev nD × Option (Fin 32) => (reached ER (kcell ck) 0 : sProp 𝕄))]
  iintro ⟨HI, ⟨Hat, #HR⟩, Htok⟩
  ihave HK := (BI.bigSep_exists_pi Finset.univ (fun (ck : Dev nD × Option (Fin 32)) (κ : ℕ) => (cellInv ER (sched m (V m ρ)) κ (kcell ck) : sProp 𝕄))) $$ HI
  icases HK with ⟨%K, #HI⟩
  ihave Htk := (toks_around (F := F)) $$ Htok
  iapply (bigSep_with_persistent (R := records m ρ K) fun c _ => share_out m ρ K c)
  isplitr
  · unfold records; isplitl; · iexact HI
    iexact HR
  · iapply ((Entails.of_eq (bigSep_sep' Finset.univ (fun c : Dev nD => bigSep Finset.univ fun k : Option (Fin 32) => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- A device's part, with the levels, is what its body starts from. -/
theorem ghost_intro (K : Dev nD × Option (Fin 32) → ℕ) (c : Dev nD) : iprop(records m ρ K ∗ linear c ∗ levAts L lv) ⊢ ghost m (V m ρ) K c := by
  unfold records linear payToks ghost Ctx
  rw [bigSep_cells]
  unfold Begun
  rw [bigSep_sep', bigSep_sep', bigSep_sep']
  iintro ⟨⟨HI, HR⟩, ⟨⟨HB, HS, HV⟩, ⟨Ht, Hf⟩, HtS, HtV⟩, HL⟩
  isplitl [HI HR HL]
  · isplitl [HI]; · iexact HI
    isplitl [HR]; · iexact HR
    iexact HL
  isplitl [HB]; · iexact HB
  isplitl [Hf]; · iexact Hf
  isplitl [Ht]; · iexact Ht
  isplitl [HS]; · iexact HS
  isplitl [HV]; · iexact HV
  isplitl [HtS]; · iexact HtS
  iexact HtV

/-! ## The launch credit -/

theorem bar_eq_iff {a b : Dev nD} : barCell a = barCell b ↔ a = b :=
  ⟨fun h => Fin.ext (congrArg (fun g : GSem nD τ sig => g.1.1.val) h), fun h => h ▸ rfl⟩
theorem recv_eq {a b : Dev nD} {t t' : Fin 16} (h : recvCell a t = recvCell b t') : a = b ∧ t = t' := by
  have h1 := kcell_injective (a₁ := (a, some (recvIx t))) (a₂ := (b, some (recvIx t'))) h
  have h2 : 16 + t.val = 16 + t'.val := congrArg Fin.val (Option.some.inj (congrArg Prod.snd h1))
  exact ⟨congrArg Prod.fst h1, Fin.ext (by omega)⟩
theorem recv_ne_bar {t : Fin 16} : (osem (recvIx t) : SemLoc sig) ≠ .reg barS := fun h => by cases h

theorem owed_land (d c : Dev nD) (t : Fin 16) : Od d 0 (recvCell c t) () = if d = pt t c then N else 0 := by
  unfold Od
  rw [Finset.sum_apply, Finsupp.finset_sum_apply, Finset.sum_eq_single t]
  · rw [tallyAt_apply]
    by_cases h : d = pt t c
    · subst h; rw [pt_pt, if_pos ⟨rfl, rfl⟩, if_pos rfl]
    · rw [if_neg (fun ⟨h1, _⟩ => h (by rw [(recv_eq h1).1, pt_pt])), if_neg h]
  · intro t' _ hne
    rw [tallyAt_apply, if_neg fun ⟨h1, _⟩ => hne (recv_eq h1).2.symm]
  · intro h; exact absurd (Finset.mem_filter.mpr ⟨Finset.mem_univ t, Nat.zero_le _⟩) h

theorem owed_land_bar (d c : Dev nD) : Od d 0 (barCell c) () = 0 := by
  by_contra h
  obtain ⟨t, -, ht⟩ := Od_pos (Nat.pos_of_ne_zero h)
  exact recv_ne_bar (congrArg Prod.snd ht).symm

theorem unit_at (a c d : Dev nD) (p : Bool) (h : d = peer p a) :
    (tallyAt (barCell d) () 1 : CellTallies nD τ sig Unit) (barCell c) () = if a = peer p c then 1 else 0 := by
  subst h
  rw [tallyAt_apply]
  by_cases h : a = peer p c
  · subst h; rw [peer_peer, if_pos ⟨rfl, rfl⟩, if_pos rfl]
  · rw [if_neg (fun ⟨h1, _⟩ => h (by rw [bar_eq_iff.mp h1, peer_peer])), if_neg h]

theorem owed_bar (d c : Dev nD) : O₀ d (barCell c) () = (if d = peer true c then 1 else 0) + (if d = peer false c then 1 else 0) := by
  unfold O₀ O₁
  rw [Pi.add_apply, Finsupp.add_apply, Pi.add_apply, Finsupp.add_apply, owed_land_bar, unit_at d c _ true rfl, unit_at d c _ false rfl, Nat.zero_add]

theorem owed_recv (d c : Dev nD) (t : Fin 16) : O₀ d (recvCell c t) () = if d = pt t c then N else 0 := by
  unfold O₀ O₁
  rw [Pi.add_apply, Finsupp.add_apply, Pi.add_apply, Finsupp.add_apply, owed_land,
    tallyAt_ne_cell (fun h => recv_ne_bar (congrArg Prod.snd h)), tallyAt_ne_cell (fun h => recv_ne_bar (congrArg Prod.snd h)), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer true c) fun _ => 1, Finset.sum_ite_eq' Finset.univ (peer false c) fun _ => 1, if_pos (Finset.mem_univ _), if_pos (Finset.mem_univ _)]

theorem launch_recv (c : Dev nD) (t : Fin 16) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (pt t c) fun _ => N,
    if_pos (Finset.mem_univ _)]

theorem recv_injective : Function.Injective (fun t : Fin 16 => (osem (recvIx t) : SemLoc sig)) := by
  intro t t' h
  have h2 : 6 + (16 + t.val) = 6 + (16 + t'.val) := congrArg Fin.val (SemLoc.dma.inj h)
  exact Fin.ext (by omega)

theorem recv_creds (c : Dev nD) :
    (bigSep (Finset.univ.erase (SemLoc.reg barS)) (fun sm : SemLoc sig => cred (tallyOn ((c : Thread nD τ), sm) (launchCredit (Pipeline.owing O₀) 0 ((c : Thread nD τ), sm)))) : sProp 𝕄)
      ⊢ bigSep Finset.univ fun t : Fin 16 => cred (tallyAt (recvCell c t) () N) := by
  refine BIBase.Entails.trans (bigSep_subset (t := Finset.univ.map ⟨_, recv_injective⟩) fun s hs => ?_) ?_
  · obtain ⟨t, -, rfl⟩ := Finset.mem_map.mp hs
    exact Finset.mem_erase.mpr ⟨recv_ne_bar, Finset.mem_univ _⟩
  · rw [bigSep_map]
    exact bigSep_mono fun t _ => Entails.of_eq (congrArg cred (launch_recv c t))

theorem creds (c : Dev nD) : (Pipeline.launchCred O₀ c : sProp 𝕄) ⊢ credits c := by
  unfold Pipeline.launchCred credits
  rw [bigSep_univ_at _ (SemLoc.reg barS), launch_bar]
  exact sep_mono_right (recv_creds c)

/-! ## The one grid point -/

theorem cfg0_N : cfg0.N = 1 := by decide
def at₀ : Fin cfg0.N := ⟨0, by rw [cfg0_N]; decide⟩
theorem point_eq (t : Fin cfg0.N) : t = at₀ := by
  obtain ⟨t, ht⟩ := t; have := cfg0_N; exact Fin.ext (by simp only [at₀]; omega)

/-- What device `c` starts from besides the exchange buffer: the ghost state without its levels, the levels, the credits. -/
def start (c : Dev nD) : sProp 𝕄 := iprop(G' m ρ c ∗ levAts L lv ∗ credits (F := F) c)

def Φ₀ (c : Dev nD) : sProp 𝕄 := iprop(start m ρ c ∗ slots (F := F) c)
def Φ₁ (c : Dev nD) : sProp 𝕄 := iprop((bigSep Finset.univ fun t : Fin 16 => Over (F := F) c t) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => rwS m ρ c
    | ⟨2, _⟩ => idS m ρ c
    | ⟨3, _⟩ => ewS m ρ c
    | ⟨4, _⟩ => swS m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- Holding a whole buffer at contents `X`. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
  exact BI.Entails.antisymm
    (show iprop(∃ f : Buf (Elt F) ((c : Thread nD τ).loc b), ⌜f = X⌝ ∗ (((c : Thread nD τ).loc b) ↦{fullShare} f)) ⊢ (stg c b X : sProp 𝕄) from by
      iintro ⟨%f, %hf, H⟩; subst hf; iexact H)
    (show (stg c b X : sProp 𝕄) ⊢ iprop(∃ f : Buf (Elt F) ((c : Thread nD τ).loc b), ⌜f = X⌝ ∗ (((c : Thread nD τ).loc b) ↦{fullShare} f)) from by
      iintro H; iexists X
      isplitr; · ipureintro; rfl
      iexact H)

theorem owes_start (c : Dev nD) : ((dats m ρ 0 c).owesAt () at₀.castSucc : sProp 𝕄) ⊢ owesAny c (O₀ c) := by
  unfold Dat.owesAt Pipeline.owesWithin owesAny
  iintro ⟨%W, %hW, HO⟩; iexists W; iexact HO
theorem owes_stop (c : Dev nD) : (owesAny c 0 : sProp 𝕄) ⊢ (dats m ρ 0 c).owesAt () at₀.succ := by
  unfold Dat.owesAt Pipeline.owesWithin owesAny
  iintro ⟨%W, HO⟩; iexists W
  isplitr; · ipureintro; exact fun _ _ => Or.inl trivial
  iexact HO

theorem before_x (c : Dev nD) (d) : (dats m ρ 0 c).before (0 : Fin 6) at₀ d = xS m ρ c := by unfold Dat.before; rw [if_pos (fetch0_0 at₀)]; rfl
theorem before_rw (c : Dev nD) (d) : (dats m ρ 0 c).before (1 : Fin 6) at₀ d = rwS m ρ c := by unfold Dat.before; rw [if_pos (fetch0_1 at₀)]; rfl
theorem before_id (c : Dev nD) (d) : (dats m ρ 0 c).before (2 : Fin 6) at₀ d = idS m ρ c := by unfold Dat.before; rw [if_pos (fetch0_2 at₀)]; rfl
theorem before_ew (c : Dev nD) (d) : (dats m ρ 0 c).before (3 : Fin 6) at₀ d = ewS m ρ c := by unfold Dat.before; rw [if_pos (fetch0_3 at₀)]; rfl
theorem before_sw (c : Dev nD) (d) : (dats m ρ 0 c).before (4 : Fin 6) at₀ d = swS m ρ c := by unfold Dat.before; rw [if_pos (fetch0_4 at₀)]; rfl

def pointPre (c : Dev nD) : sProp 𝕄 :=
  iprop(Φ₀ m ρ c ∗ (dats m ρ 0 c).owesAt () at₀.castSucc
    ∗ (∃ d, stg c cc0_stg0_0 ((dats m ρ 0 c).before (0 : Fin 6) at₀ d)) ∗ (∃ d, stg c cc0_stg1_0 ((dats m ρ 0 c).before (1 : Fin 6) at₀ d))
    ∗ (∃ d, stg c cc0_stg2_0 ((dats m ρ 0 c).before (2 : Fin 6) at₀ d)) ∗ (∃ d, stg c cc0_stg3_0 ((dats m ρ 0 c).before (3 : Fin 6) at₀ d))
    ∗ (∃ d, stg c cc0_stg4_0 ((dats m ρ 0 c).before (4 : Fin 6) at₀ d)) ∗ (∃ d, stg c cc0_stg5_0 ((dats m ρ 0 c).before (5 : Fin 6) at₀ d)))

def pointPost (c : Dev nD) : sProp 𝕄 :=
  iprop(Φ₁ (F := F) c ∗ (dats m ρ 0 c).owesAt () at₀.succ
    ∗ stg c cc0_stg0_0 (xS m ρ c) ∗ stg c cc0_stg1_0 (rwS m ρ c) ∗ stg c cc0_stg2_0 (idS m ρ c) ∗ stg c cc0_stg3_0 (ewS m ρ c)
    ∗ stg c cc0_stg4_0 (swS m ρ c) ∗ stg c cc0_stg5_0 (outAt m ρ c))

theorem point_enter (c : Dev nD) : (pointPre m ρ c : sProp 𝕄) ⊢ iprop(∃ K, bodyPre m ρ K c) := by
  unfold pointPre Φ₀ start G'
  simp only [before_x, before_rw, before_id, before_ew, before_sw]
  iintro ⟨⟨⟨⟨%K, HR, Hl⟩, HL, Hc⟩, Hs⟩, HO, ⟨%d0, H0⟩, ⟨%d1, H1⟩, ⟨%d2, H2⟩, ⟨%d3, H3⟩, ⟨%d4, H4⟩, ⟨%d5, H5⟩⟩
  iexists K
  unfold bodyPre
  ihave Hg := (ghost_intro m ρ K c) $$ [$HR $Hl $HL]
  ihave HO := (owes_start m ρ c) $$ HO
  isplitl [Hg]; · iexact Hg
  isplitl [Hc]; · iexact Hc
  isplitl [Hs]; · iexact Hs
  isplitl [HO]; · iexact HO
  isplitl [H0]; · iexact H0
  isplitl [H1]; · iexact H1
  isplitl [H2]; · iexact H2
  isplitl [H3]; · iexact H3
  isplitl [H4]; · iexact H4
  iexists _; iexact H5

theorem point_leave (c : Dev nD) : (bodyPost m ρ c : sProp 𝕄) ⊢ pointPost m ρ c := by
  unfold bodyPost pointPost Φ₁
  iintro ⟨HR, HB, HO, H⟩
  ihave HO := (owes_stop m ρ c) $$ HO
  isplitl [HR HB]
  · isplitl [HR] <;> iassumption
  isplitl [HO]; · iexact HO
  iexact H

set_option maxRecDepth 8000 in
/-- The library's body obligation on core `c`. -/
theorem body_obligation (c : Dev nD) : BodyObligation (dats (F := F) m ρ 0 c) (defs₀ (F := F)) 𝒱₀ () Set.univ := fun t => by
  rw [point_eq t]
  rw [bigSep_W, bigSep_W]
  simp only [owns_stg]
  show pointPre m ρ c ⊢ exec c
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) (fun _ => pointPost m ρ c)
  iintro H
  ihave H := (point_enter m ρ c) $$ H
  icases H with ⟨%K, H⟩
  iapply (sound_body m ρ K c fun _ => pointPost m ρ c)
  isplitl [H]; · iexact H
  iintro H
  iapply (point_leave m ρ c)
  iexact H

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, Hcr, -, HG⟩
  ihave Hc := (creds (F := F) c) $$ Hcr
  imodintro
  unfold start
  isplitl
  · isplitl [HG]; · iexact HG
    isplitl [HL]; · iexact HL
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  ihave Hr := (slots_split c f) $$ Hr
  isplitl [Hs] <;> iassumption

theorem over_split (c : Dev nD) : (bigSep Finset.univ fun t : Fin 16 => Over (F := F) c t : sProp 𝕄)
    ⊢ iprop(Pipeline.ownSems0 (Ix := Unit) (Name := ℕ) (U := UU) (Lvl := ℕ) (Val := Elt F) (τ := τ) osem c ∗ slots c) := by
  rw [ownSems0_eq]
  unfold Over slots
  rw [bigSep_sep', bigSep_sep', bigSep_sep']
  iintro ⟨H1, H2, H3, H4⟩
  isplitl [H1 H2]
  · isplitl [H1] <;> iassumption
  isplitl [H4] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨HR, HB⟩
  ihave H := (over_split (F := F) c) $$ HR
  icases H with ⟨HZ, HS⟩
  ihave HS := (slots_join (F := F) c (m ((c : Thread nD τ).loc cc0_scratch0))) $$ HS
  isplitl [HB]; · iexact HB
  isplitl [HZ] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, for any float values, from any memory with zero counters: every fair run of the program ends, each
    window's array then holds its final contents, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeRun

end
-- ==== Proof.Ends.lean ====
/-
The final state of the kernel, array by array, for any float values; and the two claims that it runs and leaves its
arguments unchanged, one proof for both readings of its text.
-/
module

public import proofs.«01_k».proof.Proof.Launch
public import proofs.«01_k».proof.Proof.Gen.Kernel
public import proofs.«01_k».proof.Defs
public import Idealize.ShloMosaic.Lib.Pipeline.ValueKit.Geometry

@[expose] public section

noncomputable section

namespace Cert.MoeRun

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The result array of device `c` ends at what its body computes. -/
theorem finalA_out (c : Dev nD) : finalA m ρ c (5 : Fin 6) = outAt m ρ c := by
  unfold finalA
  refine (dats m ρ 0 c).arrAt_eq_of_after_last (5 : Fin 6) at₀ (by decide +kernel) _ fun j => ?_
  rfl

/-- What a final state holds on device `c`. -/
def EndsAt (c : Dev nD) (mem : (ℓ : Loc nD τ sig) → Buf (Elt F) ℓ) : Prop :=
  mem ((c.tc : Thread nD τ).loc main_v1) = outAt m ρ c
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)

theorem ends (r : PUnit × MemSt nD τ sig (Elt F)) (h : QC m ρ r) (c : Dev nD) : EndsAt m ρ c r.2.mem :=
  ⟨(h c (5 : Fin 6)).trans (finalA_out m ρ c),
    (h c (0 : Fin 6)).trans ((dats m ρ 0 c).arrAt_in (0 : Fin 6) rfl _),
    (h c (1 : Fin 6)).trans ((dats m ρ 0 c).arrAt_in (1 : Fin 6) rfl _),
    (h c (2 : Fin 6)).trans ((dats m ρ 0 c).arrAt_in (2 : Fin 6) rfl _),
    (h c (3 : Fin 6)).trans ((dats m ρ 0 c).arrAt_in (3 : Fin 6) rfl _),
    (h c (4 : Fin 6)).trans ((dats m ρ 0 c).arrAt_in (4 : Fin 6) rfl _)⟩

/-- The run, its final state named. -/
theorem run_ends : θ_run defs (onTc (τ := τ) (main (F := F))) ⟨m, fun _ => 0, ρ⟩
    (fun r => (∀ c : Dev nD, EndsAt m ρ c r.2.mem) ∧ r.2.sem = fun _ => 0) :=
  (θ_run defs _ _).mono (fun r h => ⟨ends m ρ r h.1, h.2⟩) (run_main m ρ)

/-- The run, keeping only that the arguments are unchanged and the counters zero. -/
theorem run_frame : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (run_ends m ρ)

/-- The kernel read with exact operations runs, its arguments unchanged and every counter zero. -/
theorem frame_ideal : Cert.quiescent_KernelIdeal := fun m ρ _ => run_frame m ρ

/-- The kernel read at words has the same text: its table of bodies is the same, -/
theorem table_eq : Cert.Kernel.defs₀ (F := Bits) = defs₀ (F := Bits) := by
  unfold Cert.Kernel.defs₀ defs₀
  refine congrArg Defs.onTc (funext fun l => ?_)
  match l with
  | 0 => rfl
/-- and so is the program's. -/
theorem defs_eq : Cert.Kernel.defs (F := Bits) = defs (F := Bits) := by
  unfold Cert.Kernel.defs defs
  rw [table_eq]; rfl

/-- So that it runs, its arguments unchanged and every counter zero. -/
theorem frame_kernel : Cert.quiescent_Kernel := fun m ρ _ => by
  rw [defs_eq]
  exact run_frame (F := Bits) m ρ

end Cert.MoeRun

end
-- ==== Proof.RefFrame.lean ====
/-
The reference runs and leaves its arguments unchanged.
-/
module

public import proofs.«01_k».proof.Defs
public import proofs.«01_k».proof.Proof.Gen.ReferenceIdeal.Run
public import Idealize.ShloMosaic.Lib.Quiescent

@[expose] public section

noncomputable section

namespace Cert.MoeRef

open Idealize.ShloMosaic Idealize.SL.Sem

/-- It declares no semaphore, so that its counters are zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.MoeRef

end
-- ==== Proof.Finite.lean ====
/-
What the precondition says of the arrays: every token entry and every router weight is a finite real.
-/
module

public import proofs.«01_k».proof.Pre_finite_routing_KernelIdeal
public import proofs.«01_k».proof.Pre_finite_routing_ReferenceIdeal
public import Idealize.ShloMosaic.Lib.Pointwise
public import Idealize.ShloMosaic.Lib.ReduceAll

@[expose] public section

noncomputable section

namespace Cert.MoeSpec

open Idealize.ShloMosaic

/-- The side conditions the precondition's operations state, -/
theorem facts_kernel : Cert.Pre_finite_routing_KernelIdeal.Facts where
  bcast_S_S1024x256 := by decide
  reducesTo_S1024x256_S_d0_1 := by decide
  h_S_ := by decide
  bcast_S_S256x16 := by decide
  reducesTo_S256x16_S_d0_1 := by decide

/-- and at the reference's shapes. -/
theorem facts_reference : Cert.Pre_finite_routing_ReferenceIdeal.Facts where
  bcast_S_S1024x256 := by decide
  reducesTo_S1024x256_S_d0_1 := by decide
  h_S_ := by decide
  bcast_S_S256x16 := by decide
  reducesTo_S256x16_S_d0_1 := by decide

/-- A magnitude below infinity is a real's. -/
theorem real_of_abs_lt (x : EReal) (h : Ideal.cmp .olt (max x (-x)) (Ideal.ofBits FTy.f32 0x7F800000#32) = 1#1) :
    ∃ r : ℝ, x = (r : EReal) := by
  have hb : max x (-x) < Ideal.ofBits FTy.f32 0x7F800000#32 := by
    by_contra hn
    simp [Ideal.cmp, hn] at h
  have ht : max x (-x) < ⊤ := lt_of_lt_of_le hb le_top
  obtain ⟨h1, h2⟩ := max_lt_iff.1 ht
  refine ⟨x.toReal, (EReal.coe_toReal (ne_of_lt h1) ?_).symm⟩
  rintro rfl
  simp at h2

section
variable [Cert.Pre_finite_routing_KernelIdeal.Facts]

open Cert.Pre_finite_routing_KernelIdeal in
theorem real_of_pre (X : FVec Ideal S1024x256 .f32) (R : FVec Ideal S256x16 .f32) (I : IVec S1024x1 32)
    (W : FVec Ideal S4x256x512 .f32) (S : FVec Ideal S256x512 .f32)
    (h : Cert.Pre_finite_routing_KernelIdeal.fn (F := Ideal) X R I W S = fun _ => 1#1) :
    (∀ i, ∃ r : ℝ, X i = (r : EReal)) ∧ ∀ i, ∃ r : ℝ, R i = (r : EReal) := by
  have h0 := congrFun h (fun a => a.elim0)
  unfold Cert.Pre_finite_routing_KernelIdeal.fn at h0
  obtain ⟨hx, hr⟩ := IntOp.andi_eq_one.1 h0
  refine ⟨fun i => real_of_abs_lt (X i) ?_, fun i => real_of_abs_lt (R i) ?_⟩
  · exact Host.reduce_andi_all _ _ _ _ _ hx i
  · exact Host.reduce_andi_all _ _ _ _ _ hr i

end

end Cert.MoeSpec

end
-- ==== Proof.Spec.lean ====
/-
The mathematics of the layer, on arrays of extended reals: scores, the softmax over the experts, the gate of a route.
-/
module

public import Idealize.ShloMosaic.Lib.Pointwise

@[expose] public section

noncomputable section

open scoped BigOperators

namespace Cert.MoeSpec

open Idealize.ShloMosaic

abbrev Tok : Type := (⟨2, ![1024, 256]⟩ : Shape).Idx → EReal
abbrev Rtr : Type := (⟨2, ![256, 16]⟩ : Shape).Idx → EReal

abbrev Dense : Type := (⟨2, ![256, 512]⟩ : Shape).Idx → EReal

/-- The score of expert `e` at token `t`. -/
def scoreAt (X : Tok) (R : Rtr) (t : Fin 1024) (e : Fin 16) : EReal := ∑ k : Fin 256, X (ix2 t k) * R (ix2 k e)

/-- The greatest score at token `t`. -/
def topAt (X : Tok) (R : Rtr) (t : Fin 1024) : EReal :=
  Finset.fold max (Ideal.ofBits FTy.f32 0xFF800000#32) (fun e => scoreAt X R t e) Finset.univ

/-- The exponential of a score, the greatest taken off. -/
def expAt (X : Tok) (R : Rtr) (t : Fin 1024) (e : Fin 16) : EReal := Ideal.exp (scoreAt X R t e - topAt X R t)

/-- The probability of expert `e` at token `t`. -/
def probAt (X : Tok) (R : Rtr) (t : Fin 1024) (e : Fin 16) : EReal :=
  Ideal.div (expAt X R t e) (∑ e' : Fin 16, expAt X R t e')

/-- The output of a dense layer of weights `S`. -/
def denseAt (X : Tok) (S : Dense) (t : Fin 1024) (f : Fin 512) : EReal := ∑ k : Fin 256, X (ix2 t k) * S (ix2 k f)

end Cert.MoeSpec

end
-- ==== Proof.PartValue.lean ====
/-
What one device's partial of a row block is, read with exact operations: entry by entry, the sum over the device's own
four experts of the gated token times the expert's weights.
-/
module

public import proofs.«01_k».proof.Proof.Contents
public import Idealize.ShloMosaic.Lib.Pointwise

@[expose] public section

noncomputable section

open scoped BigOperators

namespace Cert.MoeRun

open Cert.KernelIdeal Cert.KernelIdeal.Gen
open Idealize.ShloMosaic

/-- The gate of expert word `w` at a token: its weight if the token's route is `w`, else zero. -/
def gateAt (route w : BitVec 32) (g : EReal) : EReal := Scalar.select (IntOp.cmpi .eq route w) g 0

/-- One expert's contribution to entry `(t, f)`. -/
def expertTerm (tok : FVec Ideal S1024x256 .f32) (rt : IVec S1024x1 32) (gt : FVec Ideal S1024x1 .f32)
    (w : BitVec 32) (W : FVec Ideal S256x512 .bf16) (t : Fin 1024) (f : Fin 512) : EReal :=
  ∑ k : Fin 256, tok (ix2 t k) * gateAt (rt (ix2 t 0)) w (gt (ix2 t 0)) * W (ix2 k f)

/-- The row of the whole array that row `r` of block `b` is. -/
def rowOf (b : Fin 8) (r : Fin 128) : Fin 1024 := ⟨b.val * 128 + r.val, by omega⟩

/-- The word of expert `e` on a device of rank `rk`. -/
def expertWord (rk e : BitVec 32) : BitVec 32 := Scalar.addi (Scalar.muli rk 4#32) e

variable (m : (ℓ : Loc nD τ sig) → Buf (Elt Ideal) ℓ) (ρ : Dev nD → PrngReg)

/-- The sum of the four local experts' contributions. -/
def fourTerms (c : Dev nD) (t : Fin 1024) (f : Fin 512) : EReal :=
  expertTerm (tokens m ρ c) (routes m ρ c) (gates m ρ c) (expertWord (rank c) 0#32) (w0 m ρ c) t f
  + expertTerm (tokens m ρ c) (routes m ρ c) (gates m ρ c) (expertWord (rank c) 1#32) (w1 m ρ c) t f
  + expertTerm (tokens m ρ c) (routes m ρ c) (gates m ρ c) (expertWord (rank c) 2#32) (w2 m ρ c) t f
  + expertTerm (tokens m ρ c) (routes m ρ c) (gates m ρ c) (expertWord (rank c) 3#32) (w3 m ρ c) t f

theorem part0 (c : Dev nD) (r : Fin 128) (f : Fin 512) :
    part m ρ c 0 (ix4 0 0 r f) = fourTerms m ρ c (rowOf 0 r) f := by
  simp only [part, w0, w1, k0_pay12, fourTerms, expertTerm, gateAt, expertWord, rowOf]
  generalize tokens m ρ c = tk
  generalize routes m ρ c = rt
  generalize gates m ρ c = gt
  generalize k0_pay4 (ewAt m ρ c 0) = W0
  generalize k0_pay5 (ewAt m ρ c 1) = W1
  generalize w2 m ρ c = W2
  generalize w3 m ρ c = W3
  pointwise [k0_pay9, k0_pay10, k0_pay11, k0_pay12, k0_pay13]

theorem part1 (c : Dev nD) (r : Fin 128) (f : Fin 512) :
    part m ρ c 1 (ix4 0 0 r f) = fourTerms m ρ c (rowOf 1 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay14, k0_pay15, k0_pay16, k0_pay17, k0_pay18, k0_pay19, k0_pay20]

theorem part2 (c : Dev nD) (r : Fin 128) (f : Fin 512) :
    part m ρ c 2 (ix4 0 0 r f) = fourTerms m ρ c (rowOf 2 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay21, k0_pay22, k0_pay23, k0_pay24, k0_pay25]

theorem part3 (c : Dev nD) (r : Fin 128) (f : Fin 512) :
    part m ρ c 3 (ix4 0 0 r f) = fourTerms m ρ c (rowOf 3 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay26, k0_pay27, k0_pay28, k0_pay29, k0_pay30, k0_pay31]

theorem part4 (c : Dev nD) (r : Fin 128) (f : Fin 512) :
    part m ρ c 4 (ix4 0 0 r f) = fourTerms m ρ c (rowOf 4 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay32, k0_pay33, k0_pay34, k0_pay35, k0_pay36, k0_pay37]

theorem part5 (c : Dev nD) (r : Fin 128) (f : Fin 512) :
    part m ρ c 5 (ix4 0 0 r f) = fourTerms m ρ c (rowOf 5 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay38, k0_pay39, k0_pay40, k0_pay41, k0_pay42, k0_pay43]

theorem part6 (c : Dev nD) (r : Fin 128) (f : Fin 512) :
    part m ρ c 6 (ix4 0 0 r f) = fourTerms m ρ c (rowOf 6 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay44, k0_pay45, k0_pay46, k0_pay47, k0_pay48]

theorem part7 (c : Dev nD) (r : Fin 128) (f : Fin 512) :
    part m ρ c 7 (ix4 0 0 r f) = fourTerms m ρ c (rowOf 7 r) f := by
  simp only [part, fourTerms, expertTerm, gateAt, expertWord, rowOf]
  generalize tokens m ρ c = tk
  generalize routes m ρ c = rt
  generalize gates m ρ c = gt
  generalize w0 m ρ c = W0
  generalize w1 m ρ c = W1
  generalize w2 m ρ c = W2
  generalize w3 m ρ c = W3
  pointwise [k0_pay49, k0_pay50, k0_pay51, k0_pay52, k0_pay53, k0_pay54]

/-- Every block's partial, entry by entry. -/
theorem part_apply (c : Dev nD) (b : Fin 8) (r : Fin 128) (f : Fin 512) :
    part m ρ c b (ix4 0 0 r f) = fourTerms m ρ c (rowOf b r) f := by
  match b with
  | 0 => exact part0 m ρ c r f
  | 1 => exact part1 m ρ c r f
  | 2 => exact part2 m ρ c r f
  | 3 => exact part3 m ρ c r f
  | 4 => exact part4 m ρ c r f
  | 5 => exact part5 m ρ c r f
  | 6 => exact part6 m ρ c r f
  | 7 => exact part7 m ρ c r f

end Cert.MoeRun

end
-- ==== Proof.OutValue.lean ====
/-
The kernel's result, read with exact operations entry by entry: the shared expert's output plus every device's partial.
-/
module

public import proofs.«01_k».proof.Proof.PartValue

@[expose] public section

noncomputable section

open scoped BigOperators

namespace Cert.MoeRun

open Cert.KernelIdeal Cert.KernelIdeal.Gen
open Idealize.ShloMosaic

/-- A stored sum is the sum of the two partials, entry by entry. -/
theorem pairSum_apply (b : Fin 8) (x y : SlotVal Ideal) (r : Fin 128) (f : Fin 512) :
    pairSum b x y (ix4 0 0 r f) = (x (ix4 0 0 r f) + y (ix4 0 0 r f) : EReal) := by
  match b with
  | 0 => simp only [pairSum]; pointwise [k0_pay56, k0_pay57]
  | 1 => simp only [pairSum]; pointwise [k0_pay58]
  | 2 => simp only [pairSum]; pointwise [k0_pay59]
  | 3 => simp only [pairSum]; pointwise [k0_pay60]
  | 4 => simp only [pairSum]; pointwise [k0_pay61]
  | 5 => simp only [pairSum]; pointwise [k0_pay62]
  | 6 => simp only [pairSum]; pointwise [k0_pay63]
  | 7 => simp only [pairSum]; pointwise [k0_pay64, k0_pay65]

/-- A row block of the result is the shared output's rows plus the two sums. -/
theorem finalOf_apply (b : Fin 8) (s : FVec Ideal S1024x512 .f32) (x y : SlotVal Ideal) (r : Fin 128) (f : Fin 512) :
    finalOf b s x y (ix2 r f) = (s (ix2 (rowOf b r) f) + x (ix4 0 0 r f) + y (ix4 0 0 r f) : EReal) := by
  match b with
  | 0 => simp only [finalOf, rowOf]; pointwise [k0_pay66, k0_pay67, k0_pay68]
  | 1 => simp only [finalOf, rowOf]; pointwise [k0_pay69]
  | 2 => simp only [finalOf, rowOf]; pointwise [k0_pay70]
  | 3 => simp only [finalOf, rowOf]; pointwise [k0_pay71, k0_pay72]
  | 4 => simp only [finalOf, rowOf]; pointwise [k0_pay73]
  | 5 => simp only [finalOf, rowOf]; pointwise [k0_pay74]
  | 6 => simp only [finalOf, rowOf]; pointwise [k0_pay75]
  | 7 => simp only [finalOf, rowOf]; pointwise [k0_pay76, k0_pay77]

variable (m : (ℓ : Loc nD τ sig) → Buf (Elt Ideal) ℓ) (ρ : Dev nD → PrngReg)

/-- A row block of the result, in terms of the devices' partials. -/
theorem outBlk_apply (c : Dev nD) (b : Fin 8) (r : Fin 128) (f : Fin 512) :
    outBlk m ρ c b (ix2 r f)
      = shared m ρ c (ix2 (rowOf b r) f)
        + (fourTerms m ρ c (rowOf b r) f + fourTerms m ρ (pt (t0 b) c) (rowOf b r) f)
        + (fourTerms m ρ (pt (t1 b) c) (rowOf b r) f + fourTerms m ρ (pt (t0 b) (pt (t1 b) c)) (rowOf b r) f) := by
  unfold outBlk
  rw [finalOf_apply]
  unfold pair
  rw [pairSum_apply, pairSum_apply, part_apply, part_apply, part_apply, part_apply]

/-- The four devices a row block's partials come from are all of them. -/
theorem four_devices (M : Dev nD → EReal) (b : Fin 8) (c : Dev nD) :
    M c + M (pt (t0 b) c) + (M (pt (t1 b) c) + M (pt (t0 b) (pt (t1 b) c))) = M 0 + M 1 + (M 2 + M 3) := by
  have h : ∀ (b : Fin 8) (c : Dev nD), [c, pt (t0 b) c, pt (t1 b) c, pt (t0 b) (pt (t1 b) c)].Perm [0, 1, 2, 3] := by
    decide +kernel
  have := ((h b c).map M).sum_eq
  simp only [List.map_cons, List.map_nil, List.sum_cons, List.sum_nil, add_zero] at this
  rw [add_assoc, this, ← add_assoc]

/-- The row of the result that entry `t` is: its block and its row in the block. -/
theorem outAt_apply (c : Dev nD) (t : Fin 1024) (f : Fin 512) :
    outAt m ρ c (ix2 t f)
      = shared m ρ c (ix2 t f)
        + (fourTerms m ρ 0 t f + fourTerms m ρ 1 t f + (fourTerms m ρ 2 t f + fourTerms m ρ 3 t f)) := by
  have hrow : rowOf (rowBlk (ix2 t f)) ⟨t.val % 128, by omega⟩ = t := by
    apply Fin.ext; simp only [rowOf, rowBlk]
    show t.val / 128 * 128 + t.val % 128 = t.val
    omega
  have hin : rowIn (ix2 t f) = ix2 ⟨t.val % 128, by omega⟩ f := by
    funext a; match a with
    | ⟨0, _⟩ => rfl
    | ⟨1, _⟩ => rfl
  show outBlk m ρ c (rowBlk (ix2 t f)) (rowIn (ix2 t f)) = _
  rw [hin, outBlk_apply, hrow, add_assoc, four_devices (fun d => fourTerms m ρ d t f)]

end Cert.MoeRun

end
-- ==== Proof.ArgValue.lean ====
/-
The values the kernel's blocks are made of, read with exact operations entry by entry, in terms of the argument arrays.
-/
module

public import proofs.«01_k».proof.Proof.Spec
public import proofs.«01_k».proof.Proof.OutValue

@[expose] public section

noncomputable section

open scoped BigOperators

namespace Cert.MoeRun

open Cert.KernelIdeal Cert.KernelIdeal.Gen Cert.MoeSpec
open Idealize.ShloMosaic
open Idealize.ShloMosaic.TcCoe

variable (m : (ℓ : Loc nD τ sig) → Buf (Elt Ideal) ℓ) (ρ : Dev nD → PrngReg)

/-! ## The staged arguments are the arguments -/

theorem xS_eq (c : Dev nD) : xS m ρ c = m ((c : Thread nD τ).loc main_arg0) := by
  funext i
  show m ((c : Thread nD τ).loc main_arg0) ((win0_0.blk (0 : Fin 1)).view.emb i) = _
  refine congrArg _ (funext fun a => Fin.ext ?_)
  match a with
  | ⟨0, _⟩ => show 0 + 1 * (i 0).val = (i 0).val; omega
  | ⟨1, _⟩ => show 0 + 1 * (i 1).val = (i 1).val; omega

theorem rwS_eq (c : Dev nD) : rwS m ρ c = m ((c : Thread nD τ).loc main_arg1) := by
  funext i
  show m ((c : Thread nD τ).loc main_arg1) ((win0_1.blk (0 : Fin 1)).view.emb i) = _
  refine congrArg _ (funext fun a => Fin.ext ?_)
  match a with
  | ⟨0, _⟩ => show 0 + 1 * (i 0).val = (i 0).val; omega
  | ⟨1, _⟩ => show 0 + 1 * (i 1).val = (i 1).val; omega

theorem idS_eq (c : Dev nD) : idS m ρ c = m ((c : Thread nD τ).loc main_arg2) := by
  funext i
  show m ((c : Thread nD τ).loc main_arg2) ((win0_2.blk (0 : Fin 1)).view.emb i) = _
  refine congrArg _ (funext fun a => Fin.ext ?_)
  match a with
  | ⟨0, _⟩ => show 0 + 1 * (i 0).val = (i 0).val; omega
  | ⟨1, _⟩ => show 0 + 1 * (i 1).val = (i 1).val; omega

theorem ewS_eq (c : Dev nD) : ewS m ρ c = m ((c : Thread nD τ).loc main_arg3) := by
  funext i
  show m ((c : Thread nD τ).loc main_arg3) ((win0_3.blk (0 : Fin 1)).view.emb i) = _
  refine congrArg _ (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem swS_eq (c : Dev nD) : swS m ρ c = m ((c : Thread nD τ).loc main_arg4) := by
  funext i
  show m ((c : Thread nD τ).loc main_arg4) ((win0_4.blk (0 : Fin 1)).view.emb i) = _
  refine congrArg _ (funext fun a => Fin.ext ?_)
  match a with
  | ⟨0, _⟩ => show 0 + 1 * (i 0).val = (i 0).val; omega
  | ⟨1, _⟩ => show 0 + 1 * (i 1).val = (i 1).val; omega

theorem ewAt_apply (c : Dev nD) (e : Fin 4) (k : Fin 256) (f : Fin 512) :
    ewAt m ρ c e (ix3 0 k f) = m ((c : Thread nD τ).loc main_arg3) (ix3 e k f) := by
  unfold ewAt
  rw [ewS_eq]
  refine congrArg (m ((c : Thread nD τ).loc main_arg3)) (funext fun a => Fin.ext ?_)
  match a with
  | ⟨0, _⟩ => show e.val + 1 * 0 = e.val; omega
  | ⟨1, _⟩ => show 0 + 1 * k.val = k.val; omega
  | ⟨2, _⟩ => show 0 + 1 * f.val = f.val; omega

/-! ## The values every block uses -/

theorem tokens_apply (c : Dev nD) (t : Fin 1024) (k : Fin 256) :
    tokens m ρ c (ix2 t k) = m ((c : Thread nD τ).loc main_arg0) (ix2 t k) := by
  unfold tokens
  rw [xS_eq]
  pointwise [k0_pay1]

theorem routes_apply (c : Dev nD) (t : Fin 1024) :
    routes m ρ c (ix2 t 0) = m ((c : Thread nD τ).loc main_arg2) (ix2 t 0) := by
  unfold routes
  rw [idS_eq]
  pointwise [k0_pay2]

/-- The gate is the probability of the route's expert, summed over the experts the route names. -/
theorem gates_apply (c : Dev nD) (t : Fin 1024) :
    gates m ρ c (ix2 t 0)
      = ∑ e : Fin 16, Scalar.select (IntOp.cmpi .eq (BitVec.ofNat 32 e.val) (m ((c : Thread nD τ).loc main_arg2) (ix2 t 0)))
          (probAt (m ((c : Thread nD τ).loc main_arg0)) (m ((c : Thread nD τ).loc main_arg1)) t e) 0 := by
  simp only [probAt, expAt, topAt, scoreAt]
  unfold gates
  rw [xS_eq, rwS_eq, idS_eq]
  generalize m ((c : Thread nD τ).loc main_arg0) = X
  generalize m ((c : Thread nD τ).loc main_arg1) = R
  generalize m ((c : Thread nD τ).loc main_arg2) = I
  pointwise [k0_pay3, k0_pay1, k0_pay2]

theorem w0_apply (c : Dev nD) (k : Fin 256) (f : Fin 512) :
    w0 m ρ c (ix2 k f) = m ((c : Thread nD τ).loc main_arg3) (ix3 0 k f) := by
  refine Eq.trans ?_ (ewAt_apply m ρ c 0 k f)
  unfold w0
  generalize ewAt m ρ c 0 = E
  pointwise [k0_pay4]

theorem w1_apply (c : Dev nD) (k : Fin 256) (f : Fin 512) :
    w1 m ρ c (ix2 k f) = m ((c : Thread nD τ).loc main_arg3) (ix3 1 k f) := by
  refine Eq.trans ?_ (ewAt_apply m ρ c 1 k f)
  unfold w1
  generalize ewAt m ρ c 1 = E
  pointwise [k0_pay5]

theorem w2_apply (c : Dev nD) (k : Fin 256) (f : Fin 512) :
    w2 m ρ c (ix2 k f) = m ((c : Thread nD τ).loc main_arg3) (ix3 2 k f) := by
  refine Eq.trans ?_ (ewAt_apply m ρ c 2 k f)
  unfold w2
  generalize ewAt m ρ c 2 = E
  pointwise [k0_pay6]

theorem w3_apply (c : Dev nD) (k : Fin 256) (f : Fin 512) :
    w3 m ρ c (ix2 k f) = m ((c : Thread nD τ).loc main_arg3) (ix3 3 k f) := by
  refine Eq.trans ?_ (ewAt_apply m ρ c 3 k f)
  unfold w3
  generalize ewAt m ρ c 3 = E
  pointwise [k0_pay7]

theorem shared_apply (c : Dev nD) (t : Fin 1024) (f : Fin 512) :
    shared m ρ c (ix2 t f) = denseAt (m ((c : Thread nD τ).loc main_arg0)) (m ((c : Thread nD τ).loc main_arg4)) t f := by
  unfold denseAt shared
  rw [swS_eq]
  generalize m ((c : Thread nD τ).loc main_arg4) = S
  refine Eq.trans ?_ (Finset.sum_congr rfl fun k _ => congrArg (fun z : EReal => z * S (ix2 k f)) (tokens_apply m ρ c t k))
  generalize tokens m ρ c = T
  pointwise [k0_pay55, k0_pay8]

end Cert.MoeRun

end
-- ==== Proof.Prob.lean ====
/-
Over finite tokens and router weights every probability is a nonnegative real, so that it moves in and out of sums.
-/
module

public import proofs.«01_k».proof.Proof.Spec

@[expose] public section

noncomputable section

open scoped BigOperators

namespace Cert.MoeSpec

open Idealize.ShloMosaic

/-- A sum of reals, as extended reals, is their real sum; -/
theorem coe_sum {n : Nat} (g : Fin n → ℝ) : ∑ i, ((g i : ℝ) : EReal) = ((∑ i, g i : ℝ) : EReal) := by
  have key : ∀ s : Finset (Fin n), ∑ i ∈ s, ((g i : ℝ) : EReal) = ((∑ i ∈ s, g i : ℝ) : EReal) := by
    intro s
    induction s using Finset.induction_on with
    | empty => simp
    | insert a s ha ih => rw [Finset.sum_insert ha, Finset.sum_insert ha, ih, EReal.coe_add]
  exact key Finset.univ

/-- so that a sum of values that are reals is one. -/
theorem real_sum {n : Nat} (f : Fin n → EReal) (h : ∀ i, ∃ r : ℝ, f i = (r : EReal)) : ∃ r : ℝ, ∑ i, f i = (r : EReal) := by
  choose g hg using h
  refine ⟨∑ i, g i, ?_⟩
  rw [Finset.sum_congr rfl fun i _ => hg i, coe_sum]

/-- A nonnegative real moves into a sum. -/
theorem mul_sum_real {n : Nat} (p : ℝ) (hp : 0 ≤ p) (f : Fin n → EReal) : (p : EReal) * ∑ i, f i = ∑ i, (p : EReal) * f i := by
  have key : ∀ s : Finset (Fin n), (p : EReal) * ∑ i ∈ s, f i = ∑ i ∈ s, (p : EReal) * f i := by
    intro s
    induction s using Finset.induction_on with
    | empty => simp
    | insert a s ha ih =>
      rw [Finset.sum_insert ha, Finset.sum_insert ha, ← ih]
      exact EReal.left_distrib_of_nonneg_of_ne_top (by exact_mod_cast hp) (EReal.coe_ne_top p) _ _
  exact key Finset.univ

/-- The greatest of finitely many reals, at least one, is a real. -/
theorem real_fold (f : Fin 16 → EReal) (h : ∀ i, ∃ r : ℝ, f i = (r : EReal)) (b : EReal) (hb : b = ⊥) :
    ∃ r : ℝ, Finset.fold max b f Finset.univ = (r : EReal) := by
  subst hb
  refine ⟨_, (EReal.coe_toReal ?_ ?_).symm⟩
  · refine ne_of_lt ((Finset.fold_max_lt ⊤).2 ⟨bot_lt_top, fun i _ => ?_⟩)
    obtain ⟨r, hr⟩ := h i
    rw [hr]; exact EReal.coe_lt_top r
  · refine ne_of_gt ((Finset.lt_fold_max ⊥).2 (Or.inr ⟨0, Finset.mem_univ _, ?_⟩))
    obtain ⟨r, hr⟩ := h 0
    rw [hr]; exact EReal.bot_lt_coe r

variable (X : Tok) (R : Rtr) (hX : ∀ i, ∃ r : ℝ, X i = (r : EReal)) (hR : ∀ i, ∃ r : ℝ, R i = (r : EReal))

include hX hR

theorem score_real (t : Fin 1024) (e : Fin 16) : ∃ r : ℝ, scoreAt X R t e = (r : EReal) :=
  real_sum _ fun k => by
    obtain ⟨a, ha⟩ := hX (ix2 t k)
    obtain ⟨b, hb⟩ := hR (ix2 k e)
    exact ⟨a * b, by rw [ha, hb]; push_cast; rfl⟩

theorem top_real (t : Fin 1024) : ∃ r : ℝ, topAt X R t = (r : EReal) :=
  real_fold _ (score_real X R hX hR t) _ (by simp [Ideal.ofBits, Ideal.ieee])

theorem exp_real (t : Fin 1024) (e : Fin 16) : ∃ r : ℝ, 0 < r ∧ expAt X R t e = (r : EReal) := by
  obtain ⟨a, ha⟩ := score_real X R hX hR t e
  obtain ⟨b, hb⟩ := top_real X R hX hR t
  refine ⟨Real.exp (a - b), Real.exp_pos _, ?_⟩
  unfold expAt
  rw [ha, hb, ← EReal.coe_sub]
  rfl

/-- A probability is a nonnegative real. -/
theorem prob_real (t : Fin 1024) (e : Fin 16) : ∃ r : ℝ, 0 ≤ r ∧ probAt X R t e = (r : EReal) := by
  have h := exp_real X R hX hR t
  choose g hg using h
  have hs : ∑ e' : Fin 16, expAt X R t e' = ((∑ e', g e' : ℝ) : EReal) := by
    rw [Finset.sum_congr rfl fun i _ => (hg i).2, coe_sum]
  have hpos : 0 < ∑ e', g e' := Finset.sum_pos (fun i _ => (hg i).1) ⟨0, Finset.mem_univ _⟩
  refine ⟨g e * (∑ e', g e')⁻¹, mul_nonneg (hg e).1.le (inv_nonneg.2 hpos.le), ?_⟩
  unfold probAt Ideal.div
  rw [hs, (hg e).2, if_neg (by exact_mod_cast hpos.ne'), ← EReal.coe_inv, ← EReal.coe_mul]

end Cert.MoeSpec

end
-- ==== Proof.RefValue.lean ====
/-
The reference's result, read with exact operations entry by entry.
-/
module

public import proofs.«01_k».proof.Proof.Spec
public import proofs.«01_k».proof.Proof.Gen.ReferenceIdeal.Run

@[expose] public section

noncomputable section

open scoped BigOperators

namespace Cert.MoeRef

open Cert.ReferenceIdeal Cert.ReferenceIdeal.Gen Cert.MoeSpec
open Idealize.ShloMosaic
open Idealize.ShloMosaic.TcCoe

/-- The probabilities, as the reference's operations compose them. -/
def probs (X : FVec Ideal S1024x256 .f32) (R : FVec Ideal S256x16 .f32) : FVec Ideal S1024x16 .f32 :=
  let v0 := Host.dotGeneral dot_S1024x256_S256x16_S1024x16_1_0_0_1_n_n none X R
  let v1 := Host.reduce FloatOps.maximumf v0 (constant (F := Ideal) S_ .f32 0xFF800000#32) reducesTo_S1024x16_S1024_d1 h_S_
  let v5 : FVec Ideal S1024x16 .f32 := Host.exp (subf v0 (broadcastInDim S1024x16 ![0, 1] bcast_S1024x1_S1024x16_0_1 (broadcastInDim S1024x1 ![0] bcast_S1024_S1024x1_0 v1)))
  let v6 : FVec Ideal S1024 .f32 := Host.reduceAdd v5 (constant (F := Ideal) S_ .f32 0x00000000#32) reducesTo_S1024x16_S1024_d1 h_S_
  Host.divf v5 (broadcastInDim S1024x16 ![0, 1] bcast_S1024x1_S1024x16_0_1 (broadcastInDim S1024x1 ![0] bcast_S1024_S1024x1_0 v6))

theorem probs_apply (X : FVec Ideal S1024x256 .f32) (R : FVec Ideal S256x16 .f32) (t : Fin 1024) (e : Fin 16) :
    probs X R (ix2 t e) = probAt X R t e := by
  simp only [probAt, expAt, topAt, scoreAt]
  pointwise [probs]

/-- The pairs of row and expert the probabilities are read at. -/
def pairs (I : IVec S1024x1 32) : IVec S1024x2 32 :=
  concatenate S1024x2 1 [⟨S1024x1, (broadcastInDim S1024x1 ![0] bcast_S1024_S1024x1_0 (iotaInDim S1024 32 0))⟩,
    ⟨S1024x1, (broadcastInDim S1024x1 ![0] bcast_S1024_S1024x1_0 (shapeCast _ I shapeCasts_S1024x1_S1024))⟩] concatenates_S1024x1_S1024x1_S1024x2_d1

theorem pairs_row (I : IVec S1024x1 32) (t : Fin 1024) : pairs I (ix2 t 0) = BitVec.ofNat 32 t.val := by
  pointwise [pairs]

theorem pairs_expert (I : IVec S1024x1 32) (t : Fin 1024) : pairs I (ix2 t 1) = I (ix2 t 0) := by
  pointwise [pairs]

/-- Whether a pair is in range. -/
def inRange (I : IVec S1024x1 32) : IVec S1024 1 :=
  Host.reduce IntOp.andi (andi (cmpi .sge (pairs I) (broadcastInDim S1024x2 ![] bcast_S_S1024x2 (constantI S_ 32 0#32)))
    (cmpi .sle (pairs I) (broadcastInDim S1024x2 ![0, 1] bcast_S1x2_S1024x2_0_1 (broadcastInDim S1x2 ![1] bcast_S2_S1x2_1 (fun i => lit0 (S2.rowMajor i))))))
    (constantI S_ 1 1#1) reducesTo_S1024x2_S1024_d1 h_S_

theorem inRange_apply (I : IVec S1024x1 32) (t : Fin 1024) :
    inRange I (ix1 t)
      = IntOp.andi (IntOp.andi (IntOp.cmpi .sge (BitVec.ofNat 32 t.val) 0#32) (IntOp.cmpi .sle (BitVec.ofNat 32 t.val) 1023#32))
          (IntOp.andi (IntOp.andi (IntOp.cmpi .sge (I (ix2 t 0)) 0#32) (IntOp.cmpi .sle (I (ix2 t 0)) 15#32)) 1#1) := by
  pointwise [inRange]
  rw [show (Finset.univ : Finset (Fin 2)) = insert 0 {1} from rfl, Finset.fold_insert (by decide), Finset.fold_singleton,
    pairs_row, pairs_expert]
  rfl

/-- The probability of the route, zero out of range. -/
def routed (P : FVec Ideal S1024x16 .f32) (I : IVec S1024x1 32) : FVec Ideal S1024 .f32 :=
  select (inRange I) (Host.gather gather_S1024x16_S1024x2_S1024_n_01_n_n_01_1_11 P (pairs I))
    (broadcastInDim S1024 ![] bcast_S_S1024 (constant (F := Ideal) S_ .f32 0x00000000#32))

theorem gather_pairs (P : FVec Ideal S1024x16 .f32) (J : IVec S1024x2 32) (t : Fin 1024) :
    Host.gather gather_S1024x16_S1024x2_S1024_n_01_n_n_01_1_11 P J (ix1 t)
      = P (ix2 ⟨min (J (ix2 t 0)).toInt.toNat 1023, by omega⟩ ⟨min (J (ix2 t 1)).toInt.toNat 15, by omega⟩) := by
  unfold Host.gather
  refine congrArg P (funext fun a => Fin.ext ?_)
  match a with
  | ⟨0, _⟩ =>
    show gather_S1024x16_S1024x2_S1024_n_01_n_n_01_1_11.start (ix1 t) J 0 + 0 + 0 = _
    have hs : gather_S1024x16_S1024x2_S1024_n_01_n_n_01_1_11.siIdx (ix1 t) ⟨0, by decide⟩ = ix2 t 0 := by
      funext b; match b with
      | ⟨0, _⟩ => rfl
      | ⟨1, _⟩ => rfl
    show _ = min (J (ix2 t 0)).toInt.toNat 1023
    rw [← hs]
    rfl
  | ⟨1, _⟩ =>
    show gather_S1024x16_S1024x2_S1024_n_01_n_n_01_1_11.start (ix1 t) J 1 + 0 + 0 = _
    have hs : gather_S1024x16_S1024x2_S1024_n_01_n_n_01_1_11.siIdx (ix1 t) ⟨1, by decide⟩ = ix2 t 1 := by
      funext b; match b with
      | ⟨0, _⟩ => rfl
      | ⟨1, _⟩ => rfl
    show _ = min (J (ix2 t 1)).toInt.toNat 15
    rw [← hs]
    rfl

/-- The routes, negative ones moved up by the number of experts. -/
def wrapped (I : IVec S1024x1 32) : IVec S1024x1 32 :=
  broadcastInDim S1024x1 ![0] bcast_S1024_S1024x1_0
    (select (cmpi .slt (shapeCast S1024 I shapeCasts_S1024x1_S1024) (broadcastInDim S1024 ![] bcast_S_S1024 (constantI S_ 32 0#32)))
      (addi (shapeCast S1024 I shapeCasts_S1024x1_S1024) (broadcastInDim S1024 ![] bcast_S_S1024 (constantI S_ 32 16#32)))
      (shapeCast S1024 I shapeCasts_S1024x1_S1024))

theorem wrapped_apply (I : IVec S1024x1 32) (t : Fin 1024) :
    wrapped I (ix2 t 0) = Scalar.select (IntOp.cmpi .slt (I (ix2 t 0)) 0#32) (IntOp.addi (I (ix2 t 0)) 16#32) (I (ix2 t 0)) := by
  pointwise [wrapped]

theorem gather_weights (W : FVec Ideal S16x256x512 .f32) (J : IVec S1024x1 32) (t : Fin 1024) (k : Fin 256) (f : Fin 512) :
    Host.gather gather_S16x256x512_S1024x1_S1024x256x512_12_0_n_n_0_1_1256512 W J (ix3 t k f)
      = W (ix3 ⟨min (J (ix2 t 0)).toInt.toNat 15, by omega⟩ k f) := by
  unfold Host.gather
  refine congrArg W (funext fun a => Fin.ext ?_)
  match a with
  | ⟨0, _⟩ =>
    show gather_S16x256x512_S1024x1_S1024x256x512_12_0_n_n_0_1_1256512.start (ix3 t k f) J 0 + 0 + 0 = _
    have hs : gather_S16x256x512_S1024x1_S1024x256x512_12_0_n_n_0_1_1256512.siIdx (ix3 t k f) ⟨0, by decide⟩ = ix2 t 0 := by
      funext b; match b with
      | ⟨0, _⟩ => rfl
      | ⟨1, _⟩ => rfl
    show _ = min (J (ix2 t 0)).toInt.toNat 15
    rw [← hs]
    rfl
  | ⟨1, _⟩ =>
    show 0 + 0 + k.val = _
    simp
  | ⟨2, _⟩ =>
    show 0 + 0 + f.val = _
    simp

/-- The reference's result. -/
def result (X : FVec Ideal S1024x256 .f32) (R : FVec Ideal S256x16 .f32) (I : IVec S1024x1 32) (W : FVec Ideal S16x256x512 .f32)
    (S : FVec Ideal S256x512 .f32) : FVec Ideal S1024x512 .f32 :=
  addf (Host.dotGeneral dot_S1024x256_S256x512_S1024x512_1_0_0_1_n_n none X S)
    (mulf (broadcastInDim S1024x512 ![0, 1] bcast_S1024x1_S1024x512_0_1 (broadcastInDim S1024x1 ![0] bcast_S1024_S1024x1_0 (routed (probs X R) I)))
      (Host.dotGeneral dot_S1024x256_S1024x256x512_S1024x512_1_1_n_2_0_0 none X
        (Host.gather gather_S16x256x512_S1024x1_S1024x256x512_12_0_n_n_0_1_1256512 W (wrapped I))))

theorem result_apply (X : FVec Ideal S1024x256 .f32) (R : FVec Ideal S256x16 .f32) (I : IVec S1024x1 32) (W : FVec Ideal S16x256x512 .f32)
    (S : FVec Ideal S256x512 .f32) (t : Fin 1024) (f : Fin 512) :
    result X R I W S (ix2 t f)
      = denseAt X S t f + routed (probs X R) I (ix1 t)
          * denseAt X (fun j => W (ix3 ⟨min (wrapped I (ix2 t 0)).toInt.toNat 15, by omega⟩ (j 0) (j 1))) t f := by
  refine Eq.trans ?_ (congrArg (fun z => denseAt X S t f + routed (probs X R) I (ix1 t) * z)
    (Finset.sum_congr rfl fun k _ => congrArg (fun z : EReal => X (ix2 t k) * z) (gather_weights W (wrapped I) t k f)))
  unfold denseAt result
  generalize routed (probs X R) I = Q
  generalize Host.gather gather_S16x256x512_S1024x1_S1024x256x512_12_0_n_n_0_1_1256512 W (wrapped I) = G
  pointwise

/-- The reference runs to that result, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.MoeRef

end
-- ==== Proof.Route.lean ====
/-
Route words: which expert a route names, and what a gate and the reference's range test make of it.
-/
module

public import proofs.«01_k».proof.Proof.PartValue
public import proofs.«01_k».proof.Proof.RefValue
public import Idealize.ShloMosaic.Lib.Affine

@[expose] public section

noncomputable section

open scoped BigOperators

namespace Cert.MoeSpec

open Idealize.ShloMosaic

/-- The word of local expert `e` of device `d` is expert `4 d + e`. -/
theorem expertWord_rank (d e : Fin 4) : Cert.MoeRun.expertWord (Cert.MoeRun.rank d) (BitVec.ofNat 32 e.val) = BitVec.ofNat 32 (4 * d.val + e.val) := by
  revert d e; decide +kernel

/-- A choice on a bit that is one, -/
theorem select_one {α : Type} {c : BitVec 1} (h : c = 1#1) (x y : α) : Scalar.select c x y = x := if_pos h

/-- and on one that is not. -/
theorem select_not {α : Type} {c : BitVec 1} (h : c ≠ 1#1) (x y : α) : Scalar.select c x y = y := if_neg h

/-- A choice on equal words. -/
theorem select_eq (a b : BitVec 32) (x y : EReal) : Scalar.select (IntOp.cmpi .eq a b) x y = if a = b then x else y := by
  by_cases h : a = b
  · rw [select_one (IntOp.cmpi_eq.2 h), if_pos h]
  · rw [select_not (fun h' => h (IntOp.cmpi_eq.1 h')), if_neg h]

/-- The sum over the experts of what the route selects is the named expert's value. -/
theorem select_sum (p : Fin 16 → EReal) (j : Fin 16) :
    ∑ e : Fin 16, Scalar.select (IntOp.cmpi .eq (BitVec.ofNat 32 e.val) (BitVec.ofNat 32 j.val)) (p e) 0 = p j := by
  rw [Finset.sum_eq_single j]
  · rw [select_eq, if_pos rfl]
  · intro e _ hne
    rw [select_eq, if_neg]
    intro h
    have := congrArg BitVec.toNat h
    simp only [BitVec.toNat_ofNat] at this
    exact hne (Fin.ext (by omega))
  · intro h; exact absurd (Finset.mem_univ j) h

/-- A route that names no expert selects nothing. -/
theorem select_sum_out (p : Fin 16 → EReal) (w : BitVec 32) (h : ∀ j : Fin 16, w ≠ BitVec.ofNat 32 j.val) :
    ∑ e : Fin 16, Scalar.select (IntOp.cmpi .eq (BitVec.ofNat 32 e.val) w) (p e) 0 = 0 :=
  Finset.sum_eq_zero fun e _ => by rw [select_eq, if_neg (fun h' => h e h'.symm)]

/-- The reference's range test on a row and a route. -/
def test (t : Fin 1024) (w : BitVec 32) : BitVec 1 :=
  IntOp.andi (IntOp.andi (IntOp.cmpi .sge (BitVec.ofNat 32 t.val) 0#32) (IntOp.cmpi .sle (BitVec.ofNat 32 t.val) 1023#32))
    (IntOp.andi (IntOp.andi (IntOp.cmpi .sge w 0#32) (IntOp.cmpi .sle w 15#32)) 1#1)

/-- A small word is its number. -/
theorem toInt_small (n : Nat) (h : n < 2048) : (BitVec.ofNat 32 n).toInt = n := by
  rw [BitVec.toInt_eq_toNat_cond, BitVec.toNat_ofNat, Nat.mod_eq_of_lt (by omega), if_pos (by omega)]

theorem row_toInt (t : Fin 1024) : (BitVec.ofNat 32 t.val).toInt = t.val := toInt_small _ (by omega)

theorem expert_toInt (j : Fin 16) : (BitVec.ofNat 32 j.val).toInt = j.val := toInt_small _ (by omega)

theorem test_iff (t : Fin 1024) (w : BitVec 32) : test t w = 1#1 ↔ ∃ j : Fin 16, w = BitVec.ofNat 32 j.val := by
  unfold test
  rw [IntOp.andi_eq_one, IntOp.andi_eq_one, IntOp.andi_eq_one, IntOp.andi_eq_one]
  rw [IntOp.cmpi_sge, IntOp.cmpi_sle, IntOp.cmpi_sge, IntOp.cmpi_sle, row_toInt]
  have ht := t.isLt
  have e0 : (0#32 : BitVec 32).toInt = 0 := by decide
  have e1 : (1023#32 : BitVec 32).toInt = 1023 := by decide
  have e2 : (15#32 : BitVec 32).toInt = 15 := by decide
  rw [e0, e1, e2]
  constructor
  · rintro ⟨-, ⟨h1, h2⟩, -⟩
    refine ⟨⟨w.toInt.toNat, by omega⟩, ?_⟩
    apply BitVec.eq_of_toInt_eq
    rw [expert_toInt ⟨w.toInt.toNat, by omega⟩]
    show w.toInt = (w.toInt.toNat : Int)
    omega
  · rintro ⟨j, rfl⟩
    rw [expert_toInt]
    have := j.isLt
    exact ⟨⟨by omega, by omega⟩, ⟨by omega, by omega⟩, rfl⟩

open Cert.ReferenceIdeal Cert.MoeRef

/-- In range, the routed probability is the named expert's. -/
theorem routed_in (X : Tok) (R : Rtr) (I : IVec S1024x1 32) (t : Fin 1024) (j : Fin 16) (h : I (ix2 t 0) = BitVec.ofNat 32 j.val) :
    routed (probs X R) I (ix1 t) = probAt X R t j := by
  show Scalar.select (inRange I (ix1 t)) _ _ = _
  have hb : inRange I (ix1 t) = 1#1 := (inRange_apply I t).trans ((test_iff t (I (ix2 t 0))).2 ⟨j, h⟩)
  rw [hb]
  refine (gather_pairs (probs X R) (pairs I) t).trans ?_
  rw [← probs_apply]
  refine congrArg (probs X R) (congrArg₂ (fun (a : Fin 1024) (b : Fin 16) => ix2 a b) (Fin.ext ?_) (Fin.ext ?_))
  · show min (pairs I (ix2 t 0)).toInt.toNat 1023 = t.val
    rw [pairs_row, row_toInt]; have := t.isLt; omega
  · show min (pairs I (ix2 t 1)).toInt.toNat 15 = j.val
    rw [pairs_expert, h, expert_toInt]; have := j.isLt; omega

/-- Out of range, it is zero. -/
theorem routed_out (X : Tok) (R : Rtr) (I : IVec S1024x1 32) (t : Fin 1024) (h : ∀ j : Fin 16, I (ix2 t 0) ≠ BitVec.ofNat 32 j.val) :
    routed (probs X R) I (ix1 t) = 0 := by
  show Scalar.select (inRange I (ix1 t)) _ _ = _
  have hb : inRange I (ix1 t) ≠ 1#1 := fun e => by
    obtain ⟨j, hj⟩ := (test_iff t (I (ix2 t 0))).1 ((inRange_apply I t).symm.trans e)
    exact h j hj
  rw [select_not hb]
  exact Ideal.ofBits_zero_f32

/-- A route that names an expert is left as it is. -/
theorem wrapped_in (I : IVec S1024x1 32) (t : Fin 1024) (j : Fin 16) (h : I (ix2 t 0) = BitVec.ofNat 32 j.val) :
    min (wrapped I (ix2 t 0)).toInt.toNat 15 = j.val := by
  have hn : IntOp.cmpi .slt (BitVec.ofNat 32 j.val) 0#32 ≠ 1#1 := fun e => by
    have := IntOp.cmpi_slt.1 e
    rw [expert_toInt] at this
    have e0 : (0#32 : BitVec 32).toInt = 0 := by decide
    omega
  rw [wrapped_apply, h]
  rw [select_not hn, expert_toInt]
  have := j.isLt
  omega

end Cert.MoeSpec

end
-- ==== Proof.Equation.lean ====
/-
The equation: over finite tokens and router weights, entry by entry, the kernel's result is the reference's.
-/
module

public import proofs.«01_k».proof.Proof.ArgValue
public import proofs.«01_k».proof.Proof.Prob
public import proofs.«01_k».proof.Proof.Route
public import Idealize.ShloMosaic.Lib.LayoutAt

@[expose] public section

noncomputable section

open scoped BigOperators

namespace Cert.MoeEq

open Cert.KernelIdeal Cert.KernelIdeal.Gen Cert.MoeSpec Cert.MoeRun
open Idealize.ShloMosaic
open Idealize.ShloMosaic.TcCoe

/-- The expert that local expert `e` of device `d` is. -/
def expertOf (d e : Fin 4) : Fin 16 := ⟨4 * d.val + e.val, by omega⟩

abbrev Experts : Type := (⟨3, ![16, 256, 512]⟩ : Shape).Idx → EReal

/-- One expert's weights. -/
def weightsOf (W : Experts) (n : Fin 16) : Dense := fun j => W (ix3 n (j 0) (j 1))

/-- What expert `n` contributes to entry `(t, f)`: its output times the probability if the route names it, else zero. -/
def contrib (X : Tok) (W : Experts) (w : BitVec 32) (p : EReal) (t : Fin 1024) (f : Fin 512) (n : Fin 16) : EReal :=
  if w = BitVec.ofNat 32 n.val then p * denseAt X (weightsOf W n) t f else 0

/-- A gated expert's term is that contribution, the gate a nonnegative real. -/
theorem expertTerm_eq (X : Tok) (W : Experts) (rt : IVec S1024x1 32) (gt : FVec Ideal S1024x1 .f32) (V : FVec Ideal S256x512 .bf16)
    (tok : FVec Ideal S1024x256 .f32) (t : Fin 1024) (f : Fin 512) (n : Fin 16) (w : BitVec 32) (p : ℝ) (hp : 0 ≤ p)
    (htok : ∀ k, tok (ix2 t k) = X (ix2 t k)) (hw : rt (ix2 t 0) = w) (hg : gt (ix2 t 0) = (p : EReal))
    (hV : ∀ k, V (ix2 k f) = W (ix3 n k f)) :
    expertTerm tok rt gt (BitVec.ofNat 32 n.val) V t f = contrib X W w p t f n := by
  unfold expertTerm contrib gateAt
  rw [select_eq, hw, hg]
  by_cases h : w = BitVec.ofNat 32 n.val
  · rw [if_pos h, if_pos h]
    unfold denseAt weightsOf
    rw [mul_sum_real p hp]
    refine Finset.sum_congr rfl fun k _ => ?_
    rw [htok, hV]
    show X (ix2 t k) * (p : EReal) * W (ix3 n k f) = (p : EReal) * (X (ix2 t k) * W (ix3 n k f))
    rw [mul_comm (X (ix2 t k)), mul_assoc]
  · rw [if_neg h, if_neg h]
    exact Finset.sum_eq_zero fun k _ => by rw [mul_zero, zero_mul]

/-- Sixteen contributions of which one names the route. -/
theorem contrib_sum (X : Tok) (W : Experts) (p : EReal) (t : Fin 1024) (f : Fin 512) (j : Fin 16) :
    ∑ n : Fin 16, contrib X W (BitVec.ofNat 32 j.val) p t f n = p * denseAt X (weightsOf W j) t f := by
  rw [Finset.sum_eq_single j]
  · exact if_pos rfl
  · intro n _ hne
    refine if_neg fun h => hne (Fin.ext ?_)
    have := congrArg BitVec.toNat h
    simp only [BitVec.toNat_ofNat] at this
    omega
  · intro h; exact absurd (Finset.mem_univ j) h

/-- Sixteen of which none does. -/
theorem contrib_sum_out (X : Tok) (W : Experts) (w : BitVec 32) (p : EReal) (t : Fin 1024) (f : Fin 512)
    (h : ∀ j : Fin 16, w ≠ BitVec.ofNat 32 j.val) : ∑ n : Fin 16, contrib X W w p t f n = 0 :=
  Finset.sum_eq_zero fun n _ => if_neg (h n)

/-- The sixteen, device by device. -/
theorem sum_devices (g : Fin 16 → EReal) :
    ∑ n : Fin 16, g n
      = (g (expertOf 0 0) + g (expertOf 0 1) + g (expertOf 0 2) + g (expertOf 0 3))
        + (g (expertOf 1 0) + g (expertOf 1 1) + g (expertOf 1 2) + g (expertOf 1 3))
        + ((g (expertOf 2 0) + g (expertOf 2 1) + g (expertOf 2 2) + g (expertOf 2 3))
          + (g (expertOf 3 0) + g (expertOf 3 1) + g (expertOf 3 2) + g (expertOf 3 3))) := by
  rw [show ∑ n : Fin 16, g n = g 0 + g 1 + g 2 + g 3 + g 4 + g 5 + g 6 + g 7 + g 8 + g 9 + g 10 + g 11 + g 12 + g 13 + g 14 + g 15 by
    simp only [Fin.sum_univ_succ, Fin.sum_univ_zero, add_zero, add_assoc]; rfl]
  simp only [add_assoc]
  rfl

section Entry

variable (m : (ℓ : Loc nD τ sig) → Buf (Elt Ideal) ℓ) (ρ : Dev nD → PrngReg)
variable (X : Tok) (R : Rtr) (I : IVec S1024x1 32) (W : Experts) (S : Dense)

/-- Each device's arguments are the whole arrays', the experts' weights its block. -/
def Holds : Prop := ∀ c : Dev nD,
  m ((c : Thread nD τ).loc main_arg0) = X ∧ m ((c : Thread nD τ).loc main_arg1) = R ∧ m ((c : Thread nD τ).loc main_arg2) = I
  ∧ m ((c : Thread nD τ).loc main_arg3) = Layout.block ⟨3, ![4, 256, 512]⟩ ⟨3, ![16, 256, 512]⟩ 0 4 c W
  ∧ m ((c : Thread nD τ).loc main_arg4) = S

/-- Entry `(e, k, f)` of a device's block of the experts. -/
theorem block_apply (d e : Fin 4) (k : Fin 256) (f : Fin 512) :
    Layout.block (⟨3, ![4, 256, 512]⟩ : Shape) ⟨3, ![16, 256, 512]⟩ 0 4 d W (by decide) (ix3 e k f) = W (ix3 (expertOf d e) k f) := by
  shard_norm
  refine congrArg W (funext fun a => Fin.ext ?_)
  match a with
  | ⟨0, _⟩ => show d.val * 4 + e.val = 4 * d.val + e.val; omega
  | ⟨1, _⟩ => rfl
  | ⟨2, _⟩ => rfl

variable {m X R I W S} (h : Holds m X R I W S)

include h

theorem gates_in (c : Dev nD) (t : Fin 1024) (j : Fin 16) (hj : I (ix2 t 0) = BitVec.ofNat 32 j.val) :
    gates m ρ c (ix2 t 0) = probAt X R t j := by
  obtain ⟨h0, h1, h2, -, -⟩ := h c
  rw [gates_apply, h0, h1, h2]
  refine Eq.trans (Finset.sum_congr rfl fun e _ => ?_) (select_sum (fun e => probAt X R t e) j)
  rw [hj]

theorem gates_out (c : Dev nD) (t : Fin 1024) (hj : ∀ j : Fin 16, I (ix2 t 0) ≠ BitVec.ofNat 32 j.val) :
    gates m ρ c (ix2 t 0) = 0 := by
  obtain ⟨h0, h1, h2, -, -⟩ := h c
  rw [gates_apply, h0, h1, h2]
  exact select_sum_out (fun e => probAt X R t e) (I (ix2 t 0)) hj

/-- A device's four terms are its four experts' contributions. -/
theorem fourTerms_eq (c : Fin 4) (t : Fin 1024) (f : Fin 512) (p : ℝ) (hp : 0 ≤ p) (hg : gates m ρ c (ix2 t 0) = (p : EReal)) :
    fourTerms m ρ c t f = contrib X W (I (ix2 t 0)) p t f (expertOf c 0) + contrib X W (I (ix2 t 0)) p t f (expertOf c 1)
      + contrib X W (I (ix2 t 0)) p t f (expertOf c 2) + contrib X W (I (ix2 t 0)) p t f (expertOf c 3) := by
  obtain ⟨h0, h1, h2, h3, -⟩ := h c
  have ht : ∀ k, tokens m ρ c (ix2 t k) = X (ix2 t k) := fun k => (tokens_apply m ρ c t k).trans (congrFun h0 _)
  have hr : routes m ρ c (ix2 t 0) = I (ix2 t 0) := (routes_apply m ρ c t).trans (congrFun h2 _)
  have hw : ∀ (e : Fin 4) (k : Fin 256), m ((c : Thread nD τ).loc main_arg3) (ix3 e k f) = W (ix3 (expertOf c e) k f) :=
    fun e k => (congrFun h3 _).trans (block_apply W c e k f)
  have key : ∀ (e : Fin 4) (V : FVec Ideal S256x512 .bf16), (∀ k, V (ix2 k f) = m ((c : Thread nD τ).loc main_arg3) (ix3 e k f)) →
      expertTerm (tokens m ρ c) (routes m ρ c) (gates m ρ c) (expertWord (rank c) (BitVec.ofNat 32 e.val)) V t f
        = contrib X W (I (ix2 t 0)) p t f (expertOf c e) := fun e V hV => by
    rw [expertWord_rank]
    exact expertTerm_eq X W _ _ V _ t f (expertOf c e) _ p hp ht hr hg fun k => (hV k).trans (hw e k)
  unfold fourTerms
  exact congrArg₂ (· + ·) (congrArg₂ (· + ·) (congrArg₂ (· + ·) (key 0 _ fun k => w0_apply m ρ c k f) (key 1 _ fun k => w1_apply m ρ c k f))
    (key 2 _ fun k => w2_apply m ρ c k f)) (key 3 _ fun k => w3_apply m ρ c k f)

/-- The kernel's entry, the gate a nonnegative real on every device. -/
theorem out_entry (c : Dev nD) (t : Fin 1024) (f : Fin 512) (p : ℝ) (hp : 0 ≤ p) (hg : ∀ d : Dev nD, gates m ρ d (ix2 t 0) = (p : EReal)) :
    outAt m ρ c (ix2 t f) = denseAt X S t f + ∑ n : Fin 16, contrib X W (I (ix2 t 0)) p t f n := by
  obtain ⟨h0, -, -, -, h4⟩ := h c
  rw [outAt_apply, shared_apply, h0, h4, fourTerms_eq ρ h 0 t f p hp (hg 0), fourTerms_eq ρ h 1 t f p hp (hg 1),
    fourTerms_eq ρ h 2 t f p hp (hg 2), fourTerms_eq ρ h 3 t f p hp (hg 3), sum_devices]

/-- Every device's result is the reference's. -/
theorem out_eq (hX : ∀ i, ∃ r : ℝ, X i = (r : EReal)) (hR : ∀ i, ∃ r : ℝ, R i = (r : EReal)) (c : Dev nD) :
    outAt m ρ c = Cert.MoeRef.result X R I W S := by
  funext i
  obtain ⟨t, f, rfl⟩ : ∃ (t : Fin 1024) (f : Fin 512), i = ix2 t f :=
    ⟨i 0, i 1, by funext a; match a with
      | ⟨0, _⟩ => rfl
      | ⟨1, _⟩ => rfl⟩
  refine Eq.trans ?_ (Cert.MoeRef.result_apply X R I W S t f).symm
  by_cases hj : ∃ j : Fin 16, I (ix2 t 0) = BitVec.ofNat 32 j.val
  · obtain ⟨j, hj⟩ := hj
    obtain ⟨p, hp, hpe⟩ := prob_real X R hX hR t j
    rw [out_entry ρ h c t f p hp fun d => (gates_in ρ h d t j hj).trans hpe, routed_in X R I t j hj, hpe, hj, contrib_sum]
    have hn : (⟨min (Cert.MoeRef.wrapped I (ix2 t 0)).toInt.toNat 15, by omega⟩ : Fin 16) = j := Fin.ext (wrapped_in I t j hj)
    rw [hn]
    rfl
  · have hj' : ∀ j : Fin 16, I (ix2 t 0) ≠ BitVec.ofNat 32 j.val := fun j e => hj ⟨j, e⟩
    rw [out_entry ρ h c t f 0 le_rfl fun d => (gates_out ρ h d t hj').trans EReal.coe_zero.symm, routed_out X R I t hj',
      contrib_sum_out X W _ _ t f hj', zero_mul]

end Entry

end Cert.MoeEq

end
-- ==== Proof.Algebraic.lean ====
/-
The value claim: both programs run, and each device's result is the reference's.
-/
module

public import proofs.«01_k».proof.Defs
public import proofs.«01_k».proof.Proof.Ends
public import proofs.«01_k».proof.Proof.Finite
public import proofs.«01_k».proof.Proof.Equation

@[expose] public section

noncomputable section

namespace Cert.MoeEq

open Idealize.ShloMosaic Idealize.SL.Sem
open Cert.MoeSpec

/-- On every device the kernel's result is the reference's, over finite tokens and router weights. -/
theorem algebraic : Cert.algebraic_KernelIdeal_ReferenceIdeal_pre_finite_routing_KernelIdeal
    (hPre_finite_routing_KernelIdeal := facts_kernel) := by
  intro m g m' g' hpre hargs
  let X : Tok := m' (((0 : Dev Cert.ReferenceIdeal.nD).tc : Thread Cert.ReferenceIdeal.nD Cert.ReferenceIdeal.τ).loc Cert.ReferenceIdeal.main_arg0)
  let R : Rtr := m' (((0 : Dev Cert.ReferenceIdeal.nD).tc : Thread Cert.ReferenceIdeal.nD Cert.ReferenceIdeal.τ).loc Cert.ReferenceIdeal.main_arg1)
  have hfin : (∀ i, ∃ r : ℝ, X i = (r : EReal)) ∧ ∀ i, ∃ r : ℝ, R i = (r : EReal) := by
    have hp := @real_of_pre facts_kernel _ _ _ _ _ (hpre 0)
    have e0 := (hargs 0).1
    have e1 := (hargs 0).2.1
    exact ⟨fun i => (hp.1 i).imp fun _ hr => (congrFun e0 i).symm.trans hr, fun i => (hp.2 i).imp fun _ hr => (congrFun e1 i).symm.trans hr⟩
  refine ⟨Cert.MoeRef.result X R
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  rotate_left
  · exact (θ_run Cert.ReferenceIdeal.defs _ _).mono (fun r h => h 0) (Cert.MoeRef.run_value m' g')
  · refine (θ_run Cert.KernelIdeal.defs _ _).mono (fun r h c => ?_) (Cert.MoeRun.run_ends m g)
    obtain ⟨ho, ha⟩ := h.1 c
    exact ⟨ho.trans (out_eq g hargs hfin.1 hfin.2 c), ha⟩

end Cert.MoeEq

end
-- ==== Proof.lean ====
/-
The claims assembled: the kernel at words and read with exact operations, and the reference, run and leave their arguments
unchanged; the exact reading is the program's own text; and over finite tokens and router weights every device's result is
the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.MoeSpec.facts_kernel, Cert.MoeSpec.facts_reference,
    Cert.MoeRun.frame_kernel, Cert.MoeRun.frame_ideal, fun m g _ => Cert.MoeRun.frame_ideal m g trivial,
    Cert.MoeRef.frame_reference, fun m g _ => Cert.MoeRef.frame_reference m g trivial, trivial, Cert.MoeEq.algebraic⟩

end Cert.Proof

end
